-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_Gather_rows_sorted [hPre_rows_sorted : Cert.Pre_rows_sorted.Facts] (m : (ℓ : Loc Cert.Gather.nD Cert.Gather.τ Cert.Gather.sig) → Buf (Elt Bits) ℓ) : Prop :=
  ∀ c : Dev Cert.Gather.nD,
    (Cert.Pre_rows_sorted.fn (F := Bits) (m ((c.tc : Thread Cert.Gather.nD Cert.Gather.τ).loc Cert.Gather.main_arg0)) (m ((c.tc : Thread Cert.Gather.nD Cert.Gather.τ).loc Cert.Gather.main_arg1))).1 = (fun _ => 1#1)
    ∧ (Cert.Pre_rows_sorted.fn (F := Bits) (m ((c.tc : Thread Cert.Gather.nD Cert.Gather.τ).loc Cert.Gather.main_arg0)) (m ((c.tc : Thread Cert.Gather.nD Cert.Gather.τ).loc Cert.Gather.main_arg1))).2 = (fun _ => 1#1)

def Pre_GatherReference [hPre_rows_sorted : Cert.Pre_rows_sorted.Facts] (m : (ℓ : Loc Cert.GatherReference.nD Cert.GatherReference.τ Cert.GatherReference.sig) → Buf (Elt Bits) ℓ) : Prop :=
  ∀ c : Dev Cert.GatherReference.nD,
    (Cert.Pre_rows_sorted.fn (F := Bits) (m ((c.tc : Thread Cert.GatherReference.nD Cert.GatherReference.τ).loc Cert.GatherReference.main_arg0)) (m ((c.tc : Thread Cert.GatherReference.nD Cert.GatherReference.τ).loc Cert.GatherReference.main_arg1))).1 = (fun _ => 1#1)
    ∧ (Cert.Pre_rows_sorted.fn (F := Bits) (m ((c.tc : Thread Cert.GatherReference.nD Cert.GatherReference.τ).loc Cert.GatherReference.main_arg0)) (m ((c.tc : Thread Cert.GatherReference.nD Cert.GatherReference.τ).loc Cert.GatherReference.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Gather_pre_rows_sorted [hGather : Cert.Gather.Facts] [hPre_rows_sorted : Cert.Pre_rows_sorted.Facts] : Prop :=
  ∀ (m : (ℓ : Loc Cert.Gather.nD Cert.Gather.τ Cert.Gather.sig) → Buf (Elt Bits) ℓ) (g : Dev Cert.Gather.nD → PrngReg), Pre_Gather_rows_sorted m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherReference [hGatherReference : Cert.GatherReference.Facts] [hPre_rows_sorted : Cert.Pre_rows_sorted.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Gather_GatherReference_pre_rows_sorted [hGather : Cert.Gather.Facts] [hGatherReference : Cert.GatherReference.Facts] [hPre_rows_sorted : Cert.Pre_rows_sorted.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather_rows_sorted m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v9) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def Claim : Prop :=
  ∃ (hKernel : Cert.Kernel.Facts) (hKernelIdeal : Cert.KernelIdeal.Facts) (hReferenceIdeal : Cert.ReferenceIdeal.Facts) (hGather : Cert.Gather.Facts) (hGatherReference : Cert.GatherReference.Facts) (hPre_rows_sorted : Cert.Pre_rows_sorted.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_Gather_pre_rows_sorted (hGather := hGather) (hPre_rows_sorted := hPre_rows_sorted)
    ∧ quiescent_GatherReference (hGatherReference := hGatherReference) (hPre_rows_sorted := hPre_rows_sorted)
    ∧ preserves_Kernel_KernelIdeal
    ∧ algebraic_KernelIdeal_ReferenceIdeal (hKernelIdeal := hKernelIdeal) (hReferenceIdeal := hReferenceIdeal)
    ∧ bitexact_Gather_GatherReference_pre_rows_sorted (hGather := hGather) (hGatherReference := hGatherReference) (hPre_rows_sorted := hPre_rows_sorted)
-- ==== Pre_rows_sorted.lean ====
abbrev S20480 : Shape := ⟨1, ![20480]⟩
abbrev S1700000x192 : Shape := ⟨2, ![1700000, 192]⟩
abbrev S_ : Shape := ⟨0, ![]⟩
abbrev S20479 : Shape := ⟨1, ![20479]⟩

class Facts : Prop where
  bcast_S_S20480 : S_.BroadcastsInDim S20480 (![] : Fin 0 → Fin S20480.rank)
  slices_S20480_S20479_1 : S20480.Slices ![1] S20479
  slices_S20480_S20479_0 : S20480.Slices ![0] S20479

variable [Facts]

def fn {F : FTy → Type} [FloatOps F] (main_arg0 : IVec S20480 32) (main_arg1 : IVec S1700000x192 8) : IVec S20480 1 × IVec S20479 1 :=
  let main_c : IVec S_ 32 := constantI S_ 32 0#32
  let main_v0 : IVec S20480 32 := broadcastInDim S20480 ![] bcast_S_S20480 main_c
  let main_v1 : IVec S20480 1 := cmpi .sge main_arg0 main_v0
  let main_c_0 : IVec S_ 32 := constantI S_ 32 1700000#32
  let main_v2 : IVec S20480 32 := broadcastInDim S20480 ![] bcast_S_S20480 main_c_0
  let main_v3 : IVec S20480 1 := cmpi .slt main_arg0 main_v2
  let main_v4 : IVec S20480 1 := andi main_v1 main_v3
  let main_v5 : IVec S20479 32 := (extractStridedSlice S20479 ![1] · slices_S20480_S20479_1) main_arg0
  let main_v6 : IVec S20479 32 := (extractStridedSlice S20479 ![0] · slices_S20480_S20479_0) main_arg0
  let main_v7 : IVec S20479 1 := cmpi .sge main_v5 main_v6
  (main_v4, main_v7)
-- ==== Kernel.lean ====
abbrev S2x128x192 : Shape := ⟨3, ![2, 128, 192]⟩
abbrev S2x128 : Shape := ⟨2, ![2, 128]⟩
abbrev S128x20480 : Shape := ⟨2, ![128, 20480]⟩
abbrev S48x20480 : Shape := ⟨2, ![48, 20480]⟩
abbrev S20480 : Shape := ⟨1, ![20480]⟩
abbrev S2x192x128 : Shape := ⟨3, ![2, 192, 128]⟩
abbrev S1x20480 : Shape := ⟨2, ![1, 20480]⟩
abbrev S192x20480 : Shape := ⟨2, ![192, 20480]⟩
abbrev S128x512 : Shape := ⟨2, ![128, 512]⟩
abbrev S48x512 : Shape := ⟨2, ![48, 512]⟩
abbrev S1x512 : Shape := ⟨2, ![1, 512]⟩
abbrev S192x512 : Shape := ⟨2, ![192, 512]⟩
abbrev S1x192x128 : Shape := ⟨3, ![1, 192, 128]⟩
abbrev S192x128 : Shape := ⟨2, ![192, 128]⟩
abbrev S1x128 : Shape := ⟨2, ![1, 128]⟩
abbrev S192x256 : Shape := ⟨2, ![192, 256]⟩
abbrev S256x512 : Shape := ⟨2, ![256, 512]⟩
abbrev S512 : Shape := ⟨1, ![512]⟩

abbrev nBuf : Space → Nat
  | .hbm => 15
  | .vmem => 20
  | .smem => 0
  | _ => 0

abbrev bufTy : (tb : Table) → Fin (tcTables nBuf tb) → BufTy
  | .hbm, ⟨0, _⟩ => ⟨S2x128x192, .fp8e4m3⟩
  | .hbm, ⟨1, _⟩ => ⟨S2x128, .f32⟩
  | .hbm, ⟨2, _⟩ => ⟨S128x20480, .i32⟩
  | .hbm, ⟨3, _⟩ => ⟨S48x20480, .i32⟩
  | .hbm, ⟨4, _⟩ => ⟨S20480, .f32⟩
  | .hbm, ⟨5, _⟩ => ⟨S20480, .f32⟩
  | .hbm, ⟨6, _⟩ => ⟨S20480, .f32⟩
  | .hbm, ⟨7, _⟩ => ⟨S2x192x128, .fp8e4m3⟩
  | .hbm, ⟨8, _⟩ => ⟨S1x20480, .f32⟩
  | .hbm, ⟨9, _⟩ => ⟨S1x20480, .f32⟩
  | .hbm, ⟨10, _⟩ => ⟨S1x20480, .f32⟩
  | .hbm, ⟨11, _⟩ => ⟨S192x20480, .i8⟩
  | .hbm, ⟨12, _⟩ => ⟨S1x20480, .f32⟩
  | .hbm, ⟨13, _⟩ => ⟨S1x20480, .f32⟩
  | .hbm, ⟨14, _⟩ => ⟨S1x20480, .f32⟩
  | .local _ .vmem, ⟨0, _⟩ => ⟨S2x192x128, .fp8e4m3⟩
  | .local _ .vmem, ⟨1, _⟩ => ⟨S2x128, .f32⟩
  | .local _ .vmem, ⟨2, _⟩ => ⟨S128x512, .i32⟩
  | .local _ .vmem, ⟨3, _⟩ => ⟨S128x512, .i32⟩
  | .local _ .vmem, ⟨4, _⟩ => ⟨S48x512, .i32⟩
  | .local _ .vmem, ⟨5, _⟩ => ⟨S48x512, .i32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S192x512, .i8⟩
  | .local _ .vmem, ⟨13, _⟩ => ⟨S192x512, .i8⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | _, _ => ⟨S2x128x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x128x192 : Shape := ⟨3, ![2, 128, 192]⟩
abbrev S2x128 : Shape := ⟨2, ![2, 128]⟩
abbrev S128x20480 : Shape := ⟨2, ![128, 20480]⟩
abbrev S48x20480 : Shape := ⟨2, ![48, 20480]⟩
abbrev S20480 : Shape := ⟨1, ![20480]⟩
abbrev S192x20480 : Shape := ⟨2, ![192, 20480]⟩
abbrev S1x20480 : Shape := ⟨2, ![1, 20480]⟩
abbrev S2x128x1 : Shape := ⟨3, ![2, 128, 1]⟩
abbrev S256x192 : Shape := ⟨2, ![256, 192]⟩
abbrev S256x20480 : Shape := ⟨2, ![256, 20480]⟩
abbrev S20480x256 : Shape := ⟨2, ![20480, 256]⟩
abbrev S20480x192 : Shape := ⟨2, ![20480, 192]⟩
abbrev S48x1x20480 : Shape := ⟨3, ![48, 1, 20480]⟩
abbrev S48x4x20480 : Shape := ⟨3, ![48, 4, 20480]⟩
abbrev S20480x1 : Shape := ⟨2, ![20480, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x128x192, .fp8e4m3⟩
  | .hbm, ⟨1, _⟩ => ⟨S2x128, .f32⟩
  | .hbm, ⟨2, _⟩ => ⟨S128x20480, .i32⟩
  | .hbm, ⟨3, _⟩ => ⟨S48x20480, .i32⟩
  | .hbm, ⟨4, _⟩ => ⟨S20480, .f32⟩
  | .hbm, ⟨5, _⟩ => ⟨S20480, .f32⟩
  | .hbm, ⟨6, _⟩ => ⟨S20480, .f32⟩
  | .hbm, ⟨7, _⟩ => ⟨S192x20480, .i8⟩
  | .hbm, ⟨8, _⟩ => ⟨S1x20480, .f32⟩
  | .hbm, ⟨9, _⟩ => ⟨S1x20480, .f32⟩
  | .hbm, ⟨10, _⟩ => ⟨S1x20480, .f32⟩
  | .local _ .vmem, ⟨0, _⟩ => ⟨S2x128x192, .fp8e4m3⟩
  | .local _ .vmem, ⟨1, _⟩ => ⟨S2x128, .f32⟩
  | .local _ .vmem, ⟨2, _⟩ => ⟨S128x20480, .i32⟩
  | .local _ .vmem, ⟨3, _⟩ => ⟨S48x20480, .i32⟩
  | .local _ .vmem, ⟨4, _⟩ => ⟨S20480, .f32⟩
  | .local _ .vmem, ⟨5, _⟩ => ⟨S20480, .f32⟩
  | .local _ .vmem, ⟨6, _⟩ => ⟨S20480, .f32⟩
  | .local _ .vmem, ⟨7, _⟩ => ⟨S192x20480, .i8⟩
  | .local _ .vmem, ⟨8, _⟩ => ⟨S1x20480, .f32⟩
  | .local _ .vmem, ⟨9, _⟩ => ⟨S1x20480, .f32⟩
  | .local _ .vmem, ⟨10, _⟩ => ⟨S1x20480, .f32⟩
  | _, _ => ⟨S2x128x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x20480 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x20480 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x20480 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x20480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x20480 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x20480 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Gather.lean ====
abbrev S20480 : Shape := ⟨1, ![20480]⟩
abbrev S1700000x192 : Shape := ⟨2, ![1700000, 192]⟩
abbrev S160x128 : Shape := ⟨2, ![160, 128]⟩
abbrev S192x1700000 : Shape := ⟨2, ![192, 1700000]⟩
abbrev S48x20480 : Shape := ⟨2, ![48, 20480]⟩
abbrev S192x8192 : Shape := ⟨2, ![192, 8192]⟩
abbrev S1 : Shape := ⟨1, ![1]⟩
abbrev S1x128 : Shape := ⟨2, ![1, 128]⟩
abbrev S48x128 : Shape := ⟨2, ![48, 128]⟩
abbrev S192x128 : Shape := ⟨2, ![192, 128]⟩
abbrev S48x128x1 : Shape := ⟨3, ![48, 128, 1]⟩

abbrev nBuf : Space → Nat
  | .hbm => 4
  | .vmem => 4
  | .smem => 2
  | _ => 0

abbrev bufTy : (tb : Table) → Fin (tcTables nBuf tb) → BufTy
  | .hbm, ⟨0, _⟩ => ⟨S1700000x192, .i8⟩
  | .hbm, ⟨1, _⟩ => ⟨S160x128, .i32⟩
  | .hbm, ⟨2, _⟩ => ⟨S192x1700000, .i8⟩
  | .hbm, ⟨3, _⟩ => ⟨S48x20480, .i32⟩
  | .local _ .vmem, ⟨0, _⟩ => ⟨S160x128, .i32⟩
  | .local _ .vmem, ⟨1, _⟩ => ⟨S192x8192, .i8⟩
  | .local _ .vmem, ⟨2, _⟩ => ⟨S192x8192, .i8⟩
  | .local _ .vmem, ⟨3, _⟩ => ⟨S48x20480, .i32⟩
  | .local _ .smem, ⟨0, _⟩ => ⟨S20480, .i32⟩
  | .local _ .smem, ⟨1, _⟩ => ⟨S1, .i32⟩
  | _, _ => ⟨S1700000x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![208], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (arg6 : BitVec 32) : Fin 1 → Nat :=
  let c159_i32 : BitVec 32 := 159#32
  let v10 : BitVec 32 := Scalar.minsi arg6 c159_i32
  let c128_i32 : BitVec 32 := 128#32
  let v12 : BitVec 32 := Scalar.muli v10 c128_i32
  let v13 : Index := Scalar.indexCast v12
  ![v13.toNat]

def k0_chk1 (arg6 : BitVec 32) : Prop :=
  (∀ a, (k0_off1 arg6) a + S1.size a ≤ S20480.size a)
theorem k0_off1_inb : ∀ (arg6 : BitVec 32) (k0_hw1 : k0_chk1 arg6), ∀ a, (k0_off1 arg6) a + S1.size a ≤ S20480.size a := fun arg6 k0_hw1 => k0_hw1

def k0_off2 (arg6 : BitVec 32) : Fin 1 → Nat :=
  let c128_i32 : BitVec 32 := 128#32
  let v10 : BitVec 32 := Scalar.muli arg6 c128_i32
  let v11 : Index := Scalar.indexCast v10
  ![v11.toNat]

def k0_off3 (arg6 : BitVec 32) : Fin 1 → Nat :=
  let c128_i32_4 : BitVec 32 := 128#32
  let v16 : BitVec 32 := Scalar.muli arg6 c128_i32_4
  let c128_i32_5 : BitVec 32 := 128#32
  let v17 : BitVec 32 := Scalar.addi v16 c128_i32_5
  let c1_i32 : BitVec 32 := 1#32
  let v18 : BitVec 32 := Scalar.subi v17 c1_i32
  let v19 : Index := Scalar.indexCast v18
  ![v19.toNat]
def k0_mult1 (arg6 : BitVec 32) : BitVec 32 :=
  let c128_i32_7 : BitVec 32 := 128#32
  let v24 : BitVec 32 := Scalar.muli arg6 c128_i32_7
  v24
def k0_off4 (arg6 : BitVec 32) : Fin 2 → Nat :=
  let v26 : Index := Scalar.indexCast arg6
  let c0_8 : Index := 0#32
  ![v26.toNat, 0]
def k0_off5 (arg6 : BitVec 32) : Fin 2 → Nat :=
  let c0_12 : Index := 0#32
  let c128_i32_7 : BitVec 32 := 128#32
  let v24 : BitVec 32 := Scalar.muli arg6 c128_i32_7
  let v25 : BitVec 32 := v24
  let v42 : Index := Scalar.indexCast v25
  ![0, v42.toNat]
@[reducible] def k0_t1_loop (i : grid0.Coords) (v12 : BitVec 32) (v20 : BitVec 32) : Scf.Loop 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_14 : BitVec 32 := 1#32
  ⟨v39, v49, c1_i32_14⟩

def k0_mult2 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32 : BitVec 32 := 16#32
  let v59 : BitVec 32 := Scalar.muli arg7 c16_i32
  let c0_i32_20 : BitVec 32 := 0#32
  let v60 : BitVec 32 := Scalar.addi v59 c0_i32_20
  let c128_i32_21 : BitVec 32 := 128#32
  let v61 : BitVec 32 := Scalar.muli v60 c128_i32_21
  v61
def k0_off6 (i : grid0.Coords) (v12 : BitVec 32) (v20 : BitVec 32) (k0_t1 : Fin (k0_t1_loop i v12 v20).trips) (c0_i32_20 : BitVec 32) : Fin 2 → Nat :=
  let c0_22 : Index := 0#32
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32 : BitVec 32 := 16#32
  let v59 : BitVec 32 := Scalar.muli arg7 c16_i32
  let v60 : BitVec 32 := Scalar.addi v59 c0_i32_20
  let c128_i32_21 : BitVec 32 := 128#32
  let v61 : BitVec 32 := Scalar.muli v60 c128_i32_21
  let v62 : BitVec 32 := v61
  let v63 : Index := Scalar.indexCast v62
  ![0, v63.toNat]
def k0_mult3 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_25 : BitVec 32 := 16#32
  let v78 : BitVec 32 := Scalar.muli arg7 c16_i32_25
  let c1_i32_26 : BitVec 32 := 1#32
  let v79 : BitVec 32 := Scalar.addi v78 c1_i32_26
  let c128_i32_27 : BitVec 32 := 128#32
  let v80 : BitVec 32 := Scalar.muli v79 c128_i32_27
  v80
def k0_mult4 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_31 : BitVec 32 := 16#32
  let v97 : BitVec 32 := Scalar.muli arg7 c16_i32_31
  let c2_i32 : BitVec 32 := 2#32
  let v98 : BitVec 32 := Scalar.addi v97 c2_i32
  let c128_i32_32 : BitVec 32 := 128#32
  let v99 : BitVec 32 := Scalar.muli v98 c128_i32_32
  v99
def k0_mult5 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_36 : BitVec 32 := 16#32
  let v116 : BitVec 32 := Scalar.muli arg7 c16_i32_36
  let c3_i32 : BitVec 32 := 3#32
  let v117 : BitVec 32 := Scalar.addi v116 c3_i32
  let c128_i32_37 : BitVec 32 := 128#32
  let v118 : BitVec 32 := Scalar.muli v117 c128_i32_37
  v118
def k0_mult6 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_41 : BitVec 32 := 16#32
  let v135 : BitVec 32 := Scalar.muli arg7 c16_i32_41
  let c4_i32_42 : BitVec 32 := 4#32
  let v136 : BitVec 32 := Scalar.addi v135 c4_i32_42
  let c128_i32_43 : BitVec 32 := 128#32
  let v137 : BitVec 32 := Scalar.muli v136 c128_i32_43
  v137
def k0_mult7 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_47 : BitVec 32 := 16#32
  let v154 : BitVec 32 := Scalar.muli arg7 c16_i32_47
  let c5_i32 : BitVec 32 := 5#32
  let v155 : BitVec 32 := Scalar.addi v154 c5_i32
  let c128_i32_48 : BitVec 32 := 128#32
  let v156 : BitVec 32 := Scalar.muli v155 c128_i32_48
  v156
def k0_mult8 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_52 : BitVec 32 := 16#32
  let v173 : BitVec 32 := Scalar.muli arg7 c16_i32_52
  let c6_i32 : BitVec 32 := 6#32
  let v174 : BitVec 32 := Scalar.addi v173 c6_i32
  let c128_i32_53 : BitVec 32 := 128#32
  let v175 : BitVec 32 := Scalar.muli v174 c128_i32_53
  v175
def k0_mult9 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_57 : BitVec 32 := 16#32
  let v192 : BitVec 32 := Scalar.muli arg7 c16_i32_57
  let c7_i32_58 : BitVec 32 := 7#32
  let v193 : BitVec 32 := Scalar.addi v192 c7_i32_58
  let c128_i32_59 : BitVec 32 := 128#32
  let v194 : BitVec 32 := Scalar.muli v193 c128_i32_59
  v194
def k0_mult10 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_63 : BitVec 32 := 16#32
  let v211 : BitVec 32 := Scalar.muli arg7 c16_i32_63
  let c8_i32 : BitVec 32 := 8#32
  let v212 : BitVec 32 := Scalar.addi v211 c8_i32
  let c128_i32_64 : BitVec 32 := 128#32
  let v213 : BitVec 32 := Scalar.muli v212 c128_i32_64
  v213
def k0_mult11 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_68 : BitVec 32 := 16#32
  let v230 : BitVec 32 := Scalar.muli arg7 c16_i32_68
  let c9_i32 : BitVec 32 := 9#32
  let v231 : BitVec 32 := Scalar.addi v230 c9_i32
  let c128_i32_69 : BitVec 32 := 128#32
  let v232 : BitVec 32 := Scalar.muli v231 c128_i32_69
  v232
def k0_mult12 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_73 : BitVec 32 := 16#32
  let v249 : BitVec 32 := Scalar.muli arg7 c16_i32_73
  let c10_i32 : BitVec 32 := 10#32
  let v250 : BitVec 32 := Scalar.addi v249 c10_i32
  let c128_i32_74 : BitVec 32 := 128#32
  let v251 : BitVec 32 := Scalar.muli v250 c128_i32_74
  v251
def k0_mult13 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_78 : BitVec 32 := 16#32
  let v268 : BitVec 32 := Scalar.muli arg7 c16_i32_78
  let c11_i32 : BitVec 32 := 11#32
  let v269 : BitVec 32 := Scalar.addi v268 c11_i32
  let c128_i32_79 : BitVec 32 := 128#32
  let v270 : BitVec 32 := Scalar.muli v269 c128_i32_79
  v270
def k0_mult14 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_83 : BitVec 32 := 16#32
  let v287 : BitVec 32 := Scalar.muli arg7 c16_i32_83
  let c12_i32 : BitVec 32 := 12#32
  let v288 : BitVec 32 := Scalar.addi v287 c12_i32
  let c128_i32_84 : BitVec 32 := 128#32
  let v289 : BitVec 32 := Scalar.muli v288 c128_i32_84
  v289
def k0_mult15 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_88 : BitVec 32 := 16#32
  let v306 : BitVec 32 := Scalar.muli arg7 c16_i32_88
  let c13_i32 : BitVec 32 := 13#32
  let v307 : BitVec 32 := Scalar.addi v306 c13_i32
  let c128_i32_89 : BitVec 32 := 128#32
  let v308 : BitVec 32 := Scalar.muli v307 c128_i32_89
  v308
def k0_mult16 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_93 : BitVec 32 := 16#32
  let v325 : BitVec 32 := Scalar.muli arg7 c16_i32_93
  let c14_i32 : BitVec 32 := 14#32
  let v326 : BitVec 32 := Scalar.addi v325 c14_i32
  let c128_i32_94 : BitVec 32 := 128#32
  let v327 : BitVec 32 := Scalar.muli v326 c128_i32_94
  v327
def k0_mult17 (i : grid0.Coords) (v12 : BitVec 32) (v20 : BitVec 32) (k0_t1 : Fin (k0_t1_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c1_i32_14 : BitVec 32 := 1#32
  let arg7 : BitVec 32 := Scf.iv v39 c1_i32_14 k0_t1
  let c16_i32_98 : BitVec 32 := 16#32
  let v344 : BitVec 32 := Scalar.muli arg7 c16_i32_98
  let c15_i32 : BitVec 32 := 15#32
  let v345 : BitVec 32 := Scalar.addi v344 c15_i32
  let c128_i32_99 : BitVec 32 := 128#32
  let v346 : BitVec 32 := Scalar.muli v345 c128_i32_99
  v346
@[reducible] def k0_t2_loop (i : grid0.Coords) (v12 : BitVec 32) (v20 : BitVec 32) : Scf.Loop 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let v46 : BitVec 32 := Scalar.addi v39 v45
  let c1_i32_15 : BitVec 32 := 1#32
  ⟨v49, v46, c1_i32_15⟩
def k0_mult18 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32 : BitVec 32 := 16#32
  let v59 : BitVec 32 := Scalar.muli arg7 c16_i32
  let c0_i32_20 : BitVec 32 := 0#32
  let v60 : BitVec 32 := Scalar.addi v59 c0_i32_20
  let c128_i32_21 : BitVec 32 := 128#32
  let v61 : BitVec 32 := Scalar.muli v60 c128_i32_21
  v61
def k0_off7 (i : grid0.Coords) (v12 : BitVec 32) (v20 : BitVec 32) (k0_t2 : Fin (k0_t2_loop i v12 v20).trips) (c0_i32_20 : BitVec 32) : Fin 2 → Nat :=
  let c0_22 : Index := 0#32
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32 : BitVec 32 := 16#32
  let v59 : BitVec 32 := Scalar.muli arg7 c16_i32
  let v60 : BitVec 32 := Scalar.addi v59 c0_i32_20
  let c128_i32_21 : BitVec 32 := 128#32
  let v61 : BitVec 32 := Scalar.muli v60 c128_i32_21
  let v62 : BitVec 32 := v61
  let v63 : Index := Scalar.indexCast v62
  ![0, v63.toNat]
def k0_mult19 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_25 : BitVec 32 := 16#32
  let v78 : BitVec 32 := Scalar.muli arg7 c16_i32_25
  let c1_i32_26 : BitVec 32 := 1#32
  let v79 : BitVec 32 := Scalar.addi v78 c1_i32_26
  let c128_i32_27 : BitVec 32 := 128#32
  let v80 : BitVec 32 := Scalar.muli v79 c128_i32_27
  v80
def k0_mult20 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_31 : BitVec 32 := 16#32
  let v97 : BitVec 32 := Scalar.muli arg7 c16_i32_31
  let c2_i32 : BitVec 32 := 2#32
  let v98 : BitVec 32 := Scalar.addi v97 c2_i32
  let c128_i32_32 : BitVec 32 := 128#32
  let v99 : BitVec 32 := Scalar.muli v98 c128_i32_32
  v99
def k0_mult21 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_36 : BitVec 32 := 16#32
  let v116 : BitVec 32 := Scalar.muli arg7 c16_i32_36
  let c3_i32 : BitVec 32 := 3#32
  let v117 : BitVec 32 := Scalar.addi v116 c3_i32
  let c128_i32_37 : BitVec 32 := 128#32
  let v118 : BitVec 32 := Scalar.muli v117 c128_i32_37
  v118
def k0_mult22 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_41 : BitVec 32 := 16#32
  let v135 : BitVec 32 := Scalar.muli arg7 c16_i32_41
  let c4_i32_42 : BitVec 32 := 4#32
  let v136 : BitVec 32 := Scalar.addi v135 c4_i32_42
  let c128_i32_43 : BitVec 32 := 128#32
  let v137 : BitVec 32 := Scalar.muli v136 c128_i32_43
  v137
def k0_mult23 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_47 : BitVec 32 := 16#32
  let v154 : BitVec 32 := Scalar.muli arg7 c16_i32_47
  let c5_i32 : BitVec 32 := 5#32
  let v155 : BitVec 32 := Scalar.addi v154 c5_i32
  let c128_i32_48 : BitVec 32 := 128#32
  let v156 : BitVec 32 := Scalar.muli v155 c128_i32_48
  v156
def k0_mult24 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_52 : BitVec 32 := 16#32
  let v173 : BitVec 32 := Scalar.muli arg7 c16_i32_52
  let c6_i32 : BitVec 32 := 6#32
  let v174 : BitVec 32 := Scalar.addi v173 c6_i32
  let c128_i32_53 : BitVec 32 := 128#32
  let v175 : BitVec 32 := Scalar.muli v174 c128_i32_53
  v175
def k0_mult25 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_57 : BitVec 32 := 16#32
  let v192 : BitVec 32 := Scalar.muli arg7 c16_i32_57
  let c7_i32_58 : BitVec 32 := 7#32
  let v193 : BitVec 32 := Scalar.addi v192 c7_i32_58
  let c128_i32_59 : BitVec 32 := 128#32
  let v194 : BitVec 32 := Scalar.muli v193 c128_i32_59
  v194
def k0_mult26 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_63 : BitVec 32 := 16#32
  let v211 : BitVec 32 := Scalar.muli arg7 c16_i32_63
  let c8_i32 : BitVec 32 := 8#32
  let v212 : BitVec 32 := Scalar.addi v211 c8_i32
  let c128_i32_64 : BitVec 32 := 128#32
  let v213 : BitVec 32 := Scalar.muli v212 c128_i32_64
  v213
def k0_mult27 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_68 : BitVec 32 := 16#32
  let v230 : BitVec 32 := Scalar.muli arg7 c16_i32_68
  let c9_i32 : BitVec 32 := 9#32
  let v231 : BitVec 32 := Scalar.addi v230 c9_i32
  let c128_i32_69 : BitVec 32 := 128#32
  let v232 : BitVec 32 := Scalar.muli v231 c128_i32_69
  v232
def k0_mult28 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_73 : BitVec 32 := 16#32
  let v249 : BitVec 32 := Scalar.muli arg7 c16_i32_73
  let c10_i32 : BitVec 32 := 10#32
  let v250 : BitVec 32 := Scalar.addi v249 c10_i32
  let c128_i32_74 : BitVec 32 := 128#32
  let v251 : BitVec 32 := Scalar.muli v250 c128_i32_74
  v251
def k0_mult29 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_78 : BitVec 32 := 16#32
  let v268 : BitVec 32 := Scalar.muli arg7 c16_i32_78
  let c11_i32 : BitVec 32 := 11#32
  let v269 : BitVec 32 := Scalar.addi v268 c11_i32
  let c128_i32_79 : BitVec 32 := 128#32
  let v270 : BitVec 32 := Scalar.muli v269 c128_i32_79
  v270
def k0_mult30 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_83 : BitVec 32 := 16#32
  let v287 : BitVec 32 := Scalar.muli arg7 c16_i32_83
  let c12_i32 : BitVec 32 := 12#32
  let v288 : BitVec 32 := Scalar.addi v287 c12_i32
  let c128_i32_84 : BitVec 32 := 128#32
  let v289 : BitVec 32 := Scalar.muli v288 c128_i32_84
  v289
def k0_mult31 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_88 : BitVec 32 := 16#32
  let v306 : BitVec 32 := Scalar.muli arg7 c16_i32_88
  let c13_i32 : BitVec 32 := 13#32
  let v307 : BitVec 32 := Scalar.addi v306 c13_i32
  let c128_i32_89 : BitVec 32 := 128#32
  let v308 : BitVec 32 := Scalar.muli v307 c128_i32_89
  v308
def k0_mult32 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_93 : BitVec 32 := 16#32
  let v325 : BitVec 32 := Scalar.muli arg7 c16_i32_93
  let c14_i32 : BitVec 32 := 14#32
  let v326 : BitVec 32 := Scalar.addi v325 c14_i32
  let c128_i32_94 : BitVec 32 := 128#32
  let v327 : BitVec 32 := Scalar.muli v326 c128_i32_94
  v327
def k0_mult33 (i : grid0.Coords) (v12 : BitVec 32) (v20 : BitVec 32) (k0_t2 : Fin (k0_t2_loop i v12 v20).trips) : BitVec 32 :=
  let c7_i32 : BitVec 32 := 7#32
  let v13 : BitVec 32 := Scalar.shrsi v12 c7_i32
  let arg0 : BitVec 32 := BitVec.ofNat 32 (i 0).val
  let c64_i32 : BitVec 32 := 64#32
  let v3 : BitVec 32 := Scalar.muli arg0 c64_i32
  let v14 : BitVec 32 := Scalar.subi v13 v3
  let c0_i32_3 : BitVec 32 := 0#32
  let v15 : BitVec 32 := Scalar.maxsi v14 c0_i32_3
  let c4_i32 : BitVec 32 := 4#32
  let v39 : BitVec 32 := Scalar.shrsi v15 c4_i32
  let c7_i32_6 : BitVec 32 := 7#32
  let v21 : BitVec 32 := Scalar.shrsi v20 c7_i32_6
  let v22 : BitVec 32 := Scalar.subi v21 v3
  let c63_i32 : BitVec 32 := 63#32
  let v23 : BitVec 32 := Scalar.minsi v22 c63_i32
  let c4_i32_10 : BitVec 32 := 4#32
  let v40 : BitVec 32 := Scalar.shrsi v23 c4_i32_10
  let c1_i32_11 : BitVec 32 := 1#32
  let v41 : BitVec 32 := Scalar.addi v40 c1_i32_11
  let v45 : BitVec 32 := Scalar.subi v41 v39
  let c1_i32_13 : BitVec 32 := 1#32
  let v47 : BitVec 32 := Scalar.divsi v45 c1_i32_13
  let v48 : BitVec 32 := Scalar.muli v47 c1_i32_13
  let v49 : BitVec 32 := Scalar.addi v39 v48
  let c1_i32_15 : BitVec 32 := 1#32
  let arg7 : BitVec 32 := Scf.iv v49 c1_i32_15 k0_t2
  let c16_i32_98 : BitVec 32 := 16#32
  let v344 : BitVec 32 := Scalar.muli arg7 c16_i32_98
  let c15_i32 : BitVec 32 := 15#32
  let v345 : BitVec 32 := Scalar.addi v344 c15_i32
  let c128_i32_99 : BitVec 32 := 128#32
  let v346 : BitVec 32 := Scalar.muli v345 c128_i32_99
  v346

def k0_chk3_0 (i : grid0.Coords) (v12 : BitVec 32) (v20 : BitVec 32) : Prop :=
  ((k0_t1_loop i v12 v20).OK) ∧
  (∀ k0_t1 : Fin (k0_t1_loop i v12 v20).trips, 128 ∣ (k0_mult2 i v12 v20 k0_t1).toNat) ∧
  (∀ k0_t1 : Fin (k0_t1_loop i v12 v20).trips, ∀ (r : Fin 16), ∀ a, (k0_off6 i v12 v20 k0_t1 (BitVec.ofNat 32 r.val)) a + S192x128.size a ≤ S192x8192.size a) ∧
  (∀ k0_t1 : Fin (k0_t1_loop i v12 v20).trips, 128 ∣ (k0_mult3 i v12 v20 k0_t1).toNat) ∧
  (∀ k0_t1 : Fin (k0_t1_loop i v12 v20).trips, 128 ∣ (k0_mult4 i v12 v20 k0_t1).toNat) ∧
  (∀ k0_t1 : Fin (k0_t1_loop i v12 v20).trips, 128 ∣ (k0_mult5 i v12 v20 k0_t1).toNat) ∧
  (∀ k0_t1 : Fin (k0_t1_loop i v12 v20).trips, 128 ∣ (k0_mult6 i v12 v20 k0_t1).toNat) ∧
  (∀ k0_t1 : Fin (k0_t1_loop i v12 v20).trips, 128 ∣ (k0_mult7 i v12 v20 k0_t1).toNat) ∧
  (∀ k0_t1 : Fin (k0_t1_loop i v12 v20).trips, 128 ∣ (k0_mult8 i v12 v20 k0_t1).toNat) ∧
  (∀ k0_t1 : Fin (k0_t1_loop i v12 v20).trips, 128 ∣ (k0_mult9 i v12 v20 k0_t1).toNat) ∧
  (∀ k0_t1 : Fin (k0_t1_loop i v12 v20).trips, 128 ∣ (k0_mult10 i v12 v20 k0_t1).toNat) ∧
  (∀ k0_t1 : Fin (k0_t1_loop i v12 v20).trips, 128 ∣ (k0_mult11 i v12 v20 k0_t1).toNat) ∧
  (∀ k0_t1 : Fin (k0_t1_loop i v12 v20).trips, 128 ∣ (k0_mult12 i v12 v20 k0_t1).toNat) ∧
  (∀ k0_t1 : Fin (k0_t1_loop i v12 v20).trips, 128 ∣ (k0_mult13 i v12 v20 k0_t1).toNat) ∧
  (∀ k0_t1 : Fin (k0_t1_loop i v12 v20).trips, 128 ∣ (k0_mult14 i v12 v20 k0_t1).toNat) ∧
  (∀ k0_t1 : Fin (k0_t1_loop i v12 v20).trips, 128 ∣ (k0_mult15 i v12 v20 k0_t1).toNat) ∧
  (∀ k0_t1 : Fin (k0_t1_loop i v12 v20).trips, 128 ∣ (k0_mult16 i v12 v20 k0_t1).toNat) ∧
  (∀ k0_t1 : Fin (k0_t1_loop i v12 v20).trips, 128 ∣ (k0_mult17 i v12 v20 k0_t1).toNat) ∧
  ((k0_t2_loop i v12 v20).OK) ∧
  (∀ k0_t2 : Fin (k0_t2_loop i v12 v20).trips, 128 ∣ (k0_mult18 i v12 v20 k0_t2).toNat) ∧
  (∀ k0_t2 : Fin (k0_t2_loop i v12 v20).trips, ∀ (r : Fin 16), ∀ a, (k0_off7 i v12 v20 k0_t2 (BitVec.ofNat 32 r.val)) a + S192x128.size a ≤ S192x8192.size a) ∧
  (∀ k0_t2 : Fin (k0_t2_loop i v12 v20).trips, 128 ∣ (k0_mult19 i v12 v20 k0_t2).toNat) ∧
  (∀ k0_t2 : Fin (k0_t2_loop i v12 v20).trips, 128 ∣ (k0_mult20 i v12 v20 k0_t2).toNat) ∧
  (∀ k0_t2 : Fin (k0_t2_loop i v12 v20).trips, 128 ∣ (k0_mult21 i v12 v20 k0_t2).toNat) ∧
  (∀ k0_t2 : Fin (k0_t2_loop i v12 v20).trips, 128 ∣ (k0_mult22 i v12 v20 k0_t2).toNat) ∧
  (∀ k0_t2 : Fin (k0_t2_loop i v12 v20).trips, 128 ∣ (k0_mult23 i v12 v20 k0_t2).toNat) ∧
  (∀ k0_t2 : Fin (k0_t2_loop i v12 v20).trips, 128 ∣ (k0_mult24 i v12 v20 k0_t2).toNat) ∧
  (∀ k0_t2 : Fin (k0_t2_loop i v12 v20).trips, 128 ∣ (k0_mult25 i v12 v20 k0_t2).toNat) ∧
  (∀ k0_t2 : Fin (k0_t2_loop i v12 v20).trips, 128 ∣ (k0_mult26 i v12 v20 k0_t2).toNat) ∧
  (∀ k0_t2 : Fin (k0_t2_loop i v12 v20).trips, 128 ∣ (k0_mult27 i v12 v20 k0_t2).toNat) ∧
  (∀ k0_t2 : Fin (k0_t2_loop i v12 v20).trips, 128 ∣ (k0_mult28 i v12 v20 k0_t2).toNat) ∧
  (∀ k0_t2 : Fin (k0_t2_loop i v12 v20).trips, 128 ∣ (k0_mult29 i v12 v20 k0_t2).toNat)
def k0_chk3_1 (i : grid0.Coords) (v12 : BitVec 32) (v20 : BitVec 32) : Prop :=
  (∀ k0_t2 : Fin (k0_t2_loop i v12 v20).trips, 128 ∣ (k0_mult30 i v12 v20 k0_t2).toNat) ∧
  (∀ k0_t2 : Fin (k0_t2_loop i v12 v20).trips, 128 ∣ (k0_mult31 i v12 v20 k0_t2).toNat) ∧
  (∀ k0_t2 : Fin (k0_t2_loop i v12 v20).trips, 128 ∣ (k0_mult32 i v12 v20 k0_t2).toNat) ∧
  (∀ k0_t2 : Fin (k0_t2_loop i v12 v20).trips, 128 ∣ (k0_mult33 i v12 v20 k0_t2).toNat)
def k0_chk3 (i : grid0.Coords) (v12 : BitVec 32) (v20 : BitVec 32) : Prop :=
  k0_chk3_0 i v12 v20 ∧
  k0_chk3_1 i v12 v20
theorem k0_t1_ok : ∀ (i : grid0.Coords) (v12 : BitVec 32) (v20 : BitVec 32) (k0_hw3 : k0_chk3 i v12 v20), (k0_t1_loop i v12 v20).OK := fun i v12 v20 k0_hw3 => k0_hw3.1.1
theorem k0_mult2_dvd : ∀ (i : grid0.Coords) (v12 : BitVec 32) (v20 : BitVec 32) (k0_hw3 : k0_chk3 i v12 v20) (k0_t1 : Fin (k0_t1_loop i v12 v20).trips), 128 ∣ (k0_mult2 i v12 v20 k0_t1).toNat := fun i v12 v20 k0_hw3 k0_t1 => k0_hw3.1.2.1 k0_t1
theorem k0_off6_inb : ∀ (i : grid0.Coords) (v12 : BitVec 32) (v20 : BitVec 32) (k0_hw3 : k0_chk3 i v12 v20) (k0_t1 : Fin (k0_t1_loop i v12 v20).trips), ∀ (r : Fin 16), ∀ a, (k0_off6 i v12 v20 k0_t1 (BitVec.ofNat 32 r.val)) a + S192x128.size a ≤ S192x8192.size a := fun i v12 v20 k0_hw3 k0_t1 r => k0_hw3.1.2.2.1 k0_t1 r
theorem k0_mult3_dvd : ∀ (i : grid0.Coords) (v12 : BitVec 32) (v20 : BitVec 32) (k0_hw3 : k0_chk3 i v12 v20) (k0_t1 : Fin (k0_t1_loop i v12 v20).trips), 128 ∣ (k0_mult3 i v12 v20 k0_t1).toNat := fun i v12 v20 k0_hw3 k0_t1 => k0_hw3.1.2.2.2.1 k0_t1
theorem k0_mult4_dvd : ∀ (i : grid0.Coords) (v12 : BitVec 32) (v20 : BitVec 32) (k0_hw3 : k0_chk3 i v12 v20) (k0_t1 : Fin (k0_t1_loop i v12 v20).trips), 128 ∣ (k0_mult4 i v12 v20 k0_t1).toNat := fun i v12 v20 k0_hw3 k0_t1 => k0_hw3.1.2.2.2.2.1 k0_t1
theorem k0_mult5_dvd : ∀ (i : grid0.Coords) (v12 : BitVec 32) (v20 : BitVec 32) (k0_hw3 : k0_chk3 i v12 v20) (k0_t1 : Fin (k0_t1_loop i v12 v20).trips), 128 ∣ (k0_mult5 i v12 v20 k0_t1).toNat := fun i v12 v20 k0_hw3 k0_t1 => k0_hw3.1.2.2.2.2.2.1 k0_t1
theorem k0_mult6_dvd : ∀ (i : grid0.Coords) (v12 : BitVec 32) (v20 : BitVec 32) (k0_hw3 : k0_chk3 i v12 v20) (k0_t1 : Fin (k0_t1_loop i v12 v20).trips), 128 ∣ (k0_mult6 i v12 v20 k0_t1).toNat := fun i v12 v20 k0_hw3 k0_t1 => k0_hw3.1.2.2.2.2.2.2.1 k0_t1
theorem k0_mult7_dvd : ∀ (i : grid0.Coords) (v12 : BitVec 32) (v20 : BitVec 32) (k0_hw3 : k0_chk3 i v12 v20) (k0_t1 : Fin (k0_t1_loop i v12 v20).trips), 128 ∣ (k0_mult7 i v12 v20 k0_t1).toNat := fun i v12 v20 k0_hw3 k0_t1 => k0_hw3.1.2.2.2.2.2.2.2.1 k0_t1
theorem k0_mult8_dvd : ∀ (i : grid0.Coords) (v12 : BitVec 32) (v20 : BitVec 32) (k0_hw3 : k0_chk3 i v12 v20) (k0_t1 : Fin (k0_t1_loop i v12 v20).trips), 128 ∣ (k0_mult8 i v12 v20 k0_t1).toNat := fun i v12 v20 k0_hw3 k0_t1 => k0_hw3.1.2.2.2.2.2.2.2.2.1 k0_t1
theorem k0_mult9_dvd : ∀ (i : grid0.Coords) (v12 : BitVec 32) (v20 : BitVec 32) (k0_hw3 : k0_chk3 i v12 v20) (k0_t1 : Fin (k0_t1_loop i v12 v20).trips), 128 ∣ (k0_mult9 i v12 v20 k0_t1).toNat := fun i v12 v20 k0_hw3 k0_t1 => k0_hw3.1.2.2.2.2.2.2.2.2.2.1 k0_t1
theorem k0_mult10_dvd : ∀ (i : grid0.Coords) (v12 : BitVec 32) (v20 : BitVec 32) (k0_hw3 : k0_chk3 i v12 v20) (k0_t1 : Fin (k0_t1_loop i v12 v20).trips), 128 ∣ (k0_mult10 i v12 v20 k0_t1).toNat := fun i v12 v20 k0_hw3 k0_t1 => k0_hw3.1.2.2.2.2.2.2.2.2.2.2.1 k0_t1
theorem k0_mult11_dvd : ∀ (i : grid0.Coords) (v12 : BitVec 32) (v20 : BitVec 32) (k0_hw3 : k0_chk3 i v12 v20) (k0_t1 : Fin (k0_t1_loop i v12 v20).trips), 128 ∣ (k0_mult11 i v12 v20 k0_t1).toNat := fun i v12 v20 k0_hw3 k0_t1 => k0_hw3.1.2.2.2.2.2.2.2.2.2.2.2.1 k0_t1
theorem k0_mult12_dvd : ∀ (i : grid0.Coords) (v12 : BitVec 32) (v20 : BitVec 32) (k0_hw3 : k0_chk3 i v12 v20) (k0_t1 : Fin (k0_t1_loop i v12 v20).trips), 128 ∣ (k0_mult12 i v12 v20 k0_t1).toNat := fun i v12 v20 k0_hw3 k0_t1 => k0_hw3.1.2.2.2.2.2.2.2.2.2.2.2.2.1 k0_t1
theorem k0_mult13_dvd : ∀ (i : grid0.Coords) (v12 : BitVec 32) (v20 : BitVec 32) (k0_hw3 : k0_chk3 i v12 v20) (k0_t1 : Fin (k0_t1_loop i v12 v20).trips), 128 ∣ (k0_mult13 i v12 v20 k0_t1).toNat := fun i v12 v20 k0_hw3 k0_t1 => k0_hw3.1.2.2.2.2.2.2.2.2.2.2.2.2.2.1 k0_t1
theorem k0_mult14_dvd : ∀ (i : grid0.Coords) (v12 : BitVec 32) (v20 : BitVec 32) (k0_hw3 : k0_chk3 i v12 v20) (k0_t1 : Fin (k0_t1_loop i v12 v20).trips), 128 ∣ (k0_mult14 i v12 v20 k0_t1).toNat := fun i v12 v20 k0_hw3 k0_t1 => k0_hw3.1.2.2.2.2.2.2.2.2.2.2.2.2.2.2.1 k0_t1
theorem k0_mult15_dvd : ∀ (i : grid0.Coords) (v12 : BitVec 32) (v20 : BitVec 32) (k0_hw3 : k0_chk3 i v12 v20) (k0_t1 : Fin (k0_t1_loop i v12 v20).trips), 128 ∣ (k0_mult15 i v12 v20 k0_t1).toNat := fun i v12 v20 k0_hw3 k0_t1 => k0_hw3.1.2.2.2.2.2.2.2.2.2.2.2.2.2.2.2.1 k0_t1
theorem k0_mult16_dvd : ∀ (i : grid0.Coords) (v12 : BitVec 32) (v20 : BitVec 32) (k0_hw3 : k0_chk3 i v12 v20) (k0_t1 : Fin (k0_t1_loop i v12 v20).trips), 128 ∣ (k0_mult16 i v12 v20 k0_t1).toNat := fun i v12 v20 k0_hw3 k0_t1 => k0_hw3.1.2.2.2.2.2.2.2.2.2.2.2.2.2.2.2.2.1 k0_t1
theorem k0_mult17_dvd : ∀ (i : grid0.Coords) (v12 : BitVec 32) (v20 : BitVec 32) (k0_hw3 : k0_chk3 i v12 v20) (k0_t1 : Fin (k0_t1_loop i v12 v20).trips), 128 ∣ (k0_mult17 i v12 v20 k0_t1).toNat := fun i v12 v20 k0_hw3 k0_t1 => k0_hw3.1.2.2.2.2.2.2.2.2.2.2.2.2.2.2.2.2.2.1 k0_t1
theorem k0_t2_ok : ∀ (i : grid0.Coords) (v12 : BitVec 32) (v20 : BitVec 32) (k0_hw3 : k0_chk3 i v12 v20), (k0_t2_loop i v12 v20).OK := fun i v12 v20 k0_hw3 => k0_hw3.1.2.2.2.2.2.2.2.2.2.2.2.2.2.2.2.2.2.2.1
theorem k0_mult18_dvd : ∀ (i : grid0.Coords) (v12 : BitVec 32) (v20 : BitVec 32) (k0_hw3 : k0_chk3 i v12 v20) (k0_t2 : Fin (k0_t2_loop i v12 v20).trips), 128 ∣ (k0_mult18 i v12 v20 k0_t2).toNat := fun i v12 v20 k0_hw3 k0_t2 => k0_hw3.1.2.2.2.2.2.2.2.2.2.2.2.2.2.2.2.2.2.2.2.1 k0_t2
theorem k0_off7_inb : ∀ (i : grid0.Coords) (v12 : BitVec 32) (v20 : BitVec 32) (k0_hw3 : k0_chk3 i v12 v20) (k0_t2 : Fin (k0_t2_loop i v12 v20).trips), ∀ (r : Fin 16), ∀ a, (k0_off7 i v12 v20 k0_t2 (BitVec.ofNat 32 r.val)) a + S192x128.size a ≤ S192x8192.size a := fun i v12 v20 k0_hw3 k0_t2 r => k0_hw3.1.2.2.2.2.2.2.2.2.2.2.2.2.2.2.2.2.2.2.2.2.1 k0_t2 r
theorem k0_mult19_dvd : ∀ (i : grid0.Coords) (v12 : BitVec 32) (v20 : BitVec 32) (k0_hw3 : k0_chk3 i v12 v20) (k0_t2 : Fin (k0_t2_loop i v12 v20).trips), 128 ∣ (k0_mult19 i v12 v20 k0_t2).toNat := fun i v12 v20 k0_hw3 k0_t2 => k0_hw3.1.2.2.2.2.2.2.2.2.2.2.2.2.2.2.2.2.2.2.2.2.2.1 k0_t2
theorem k0_mult20_dvd : ∀ (i : grid0.Coords) (v12 : BitVec 32) (v20 : BitVec 32) (k0_hw3 : k0_chk3 i v12 v20) (k0_t2 : Fin (k0_t2_loop i v12 v20).trips), 128 ∣ (k0_mult20 i v12 v20 k0_t2).toNat := fun i v12 v20 k0_hw3 k0_t2 => k0_hw3.1.2.2.2.2.2.2.2.2.2.2.2.2.2.2.2.2.2.2.2.2.2.2.1 k0_t2
theorem k0_mult21_dvd : ∀ (i : grid0.Coords) (v12 : BitVec 32) (v20 : BitVec 32) (k0_hw3 : k0_chk3 i v12 v20) (k0_t2 : Fin (k0_t2_loop i v12 v20).trips), 128 ∣ (k0_mult21 i v12 v20 k0_t2).toNat := fun i v12 v20 k0_hw3 k0_t2 => k0_hw3.1.2.2.2.2.2.2.2.2.2.2.2.2.2.2.2.2.2.2.2.2.2.2.2.1 k0_t2
theorem k0_mult22_dvd : ∀ (i : grid0.Coords) (v12 : BitVec 32) (v20 : BitVec 32) (k0_hw3 : k0_chk3 i v12 v20) (k0_t2 : Fin (k0_t2_loop i v12 v20).trips), 128 ∣ (k0_mult22 i v12 v20 k0_t2).toNat := fun i v12 v20 k0_hw3 k0_t2 => k0_hw3.1.2.2.2.2.2.2.2.2.2.2.2.2.2.2.2.2.2.2.2.2.2.2.2.2.1 k0_t2
theorem k0_mult23_dvd : ∀ (i : grid0.Coords) (v12 : BitVec 32) (v20 : BitVec 32) (k0_hw3 : k0_chk3 i v12 v20) (k0_t2 : Fin (k0_t2_loop i v12 v20).trips), 128 ∣ (k0_mult23 i v12 v20 k0_t2).toNat := fun i v12 v20 k0_hw3 k0_t2 => k0_hw3.1.2.2.2.2.2.2.2.2.2.2.2.2.2.2.2.2.2.2.2.2.2.2.2.2.2.1 k0_t2
theorem k0_mult24_dvd : ∀ (i : grid0.Coords) (v12 : BitVec 32) (v20 : BitVec 32) (k0_hw3 : k0_chk3 i v12 v20) (k0_t2 : Fin (k0_t2_loop i v12 v20).trips), 128 ∣ (k0_mult24 i v12 v20 k0_t2).toNat := fun i v12 v20 k0_hw3 k0_t2 => k0_hw3.1.2.2.2.2.2.2.2.2.2.2.2.2.2.2.2.2.2.2.2.2.2.2.2.2.2.2.1 k0_t2
theorem k0_mult25_dvd : ∀ (i : grid0.Coords) (v12 : BitVec 32) (v20 : BitVec 32) (k0_hw3 : k0_chk3 i v12 v20) (k0_t2 : Fin (k0_t2_loop i v12 v20).trips), 128 ∣ (k0_mult25 i v12 v20 k0_t2).toNat := fun i v12 v20 k0_hw3 k0_t2 => k0_hw3.1.2.2.2.2.2.2.2.2.2.2.2.2.2.2.2.2.2.2.2.2.2.2.2.2.2.2.2.1 k0_t2
theorem k0_mult26_dvd : ∀ (i : grid0.Coords) (v12 : BitVec 32) (v20 : BitVec 32) (k0_hw3 : k0_chk3 i v12 v20) (k0_t2 : Fin (k0_t2_loop i v12 v20).trips), 128 ∣ (k0_mult26 i v12 v20 k0_t2).toNat := fun i v12 v20 k0_hw3 k0_t2 => k0_hw3.1.2.2.2.2.2.2.2.2.2.2.2.2.2.2.2.2.2.2.2.2.2.2.2.2.2.2.2.2.1 k0_t2
theorem k0_mult27_dvd : ∀ (i : grid0.Coords) (v12 : BitVec 32) (v20 : BitVec 32) (k0_hw3 : k0_chk3 i v12 v20) (k0_t2 : Fin (k0_t2_loop i v12 v20).trips), 128 ∣ (k0_mult27 i v12 v20 k0_t2).toNat := fun i v12 v20 k0_hw3 k0_t2 => k0_hw3.1.2.2.2.2.2.2.2.2.2.2.2.2.2.2.2.2.2.2.2.2.2.2.2.2.2.2.2.2.2.1 k0_t2
theorem k0_mult28_dvd : ∀ (i : grid0.Coords) (v12 : BitVec 32) (v20 : BitVec 32) (k0_hw3 : k0_chk3 i v12 v20) (k0_t2 : Fin (k0_t2_loop i v12 v20).trips), 128 ∣ (k0_mult28 i v12 v20 k0_t2).toNat := fun i v12 v20 k0_hw3 k0_t2 => k0_hw3.1.2.2.2.2.2.2.2.2.2.2.2.2.2.2.2.2.2.2.2.2.2.2.2.2.2.2.2.2.2.2.1 k0_t2
theorem k0_mult29_dvd : ∀ (i : grid0.Coords) (v12 : BitVec 32) (v20 : BitVec 32) (k0_hw3 : k0_chk3 i v12 v20) (k0_t2 : Fin (k0_t2_loop i v12 v20).trips), 128 ∣ (k0_mult29 i v12 v20 k0_t2).toNat := fun i v12 v20 k0_hw3 k0_t2 => k0_hw3.1.2.2.2.2.2.2.2.2.2.2.2.2.2.2.2.2.2.2.2.2.2.2.2.2.2.2.2.2.2.2.2 k0_t2
theorem k0_mult30_dvd : ∀ (i : grid0.Coords) (v12 : BitVec 32) (v20 : BitVec 32) (k0_hw3 : k0_chk3 i v12 v20) (k0_t2 : Fin (k0_t2_loop i v12 v20).trips), 128 ∣ (k0_mult30 i v12 v20 k0_t2).toNat := fun i v12 v20 k0_hw3 k0_t2 => k0_hw3.2.1 k0_t2
theorem k0_mult31_dvd : ∀ (i : grid0.Coords) (v12 : BitVec 32) (v20 : BitVec 32) (k0_hw3 : k0_chk3 i v12 v20) (k0_t2 : Fin (k0_t2_loop i v12 v20).trips), 128 ∣ (k0_mult31 i v12 v20 k0_t2).toNat := fun i v12 v20 k0_hw3 k0_t2 => k0_hw3.2.2.1 k0_t2
theorem k0_mult32_dvd : ∀ (i : grid0.Coords) (v12 : BitVec 32) (v20 : BitVec 32) (k0_hw3 : k0_chk3 i v12 v20) (k0_t2 : Fin (k0_t2_loop i v12 v20).trips), 128 ∣ (k0_mult32 i v12 v20 k0_t2).toNat := fun i v12 v20 k0_hw3 k0_t2 => k0_hw3.2.2.2.1 k0_t2
theorem k0_mult33_dvd : ∀ (i : grid0.Coords) (v12 : BitVec 32) (v20 : BitVec 32) (k0_hw3 : k0_chk3 i v12 v20) (k0_t2 : Fin (k0_t2_loop i v12 v20).trips), 128 ∣ (k0_mult33 i v12 v20 k0_t2).toNat := fun i v12 v20 k0_hw3 k0_t2 => k0_hw3.2.2.2.2 k0_t2

def k0_off8 (arg6 : BitVec 32) : Fin 2 → Nat :=
  let c0_16 : Index := 0#32
  let c128_i32_7 : BitVec 32 := 128#32
  let v24 : BitVec 32 := Scalar.muli arg6 c128_i32_7
  let v25 : BitVec 32 := v24
  let v52 : Index := Scalar.indexCast v25
  ![0, v52.toNat]

def k0_chk2 (arg6 : BitVec 32) : Prop :=
  (∀ a, (k0_off2 arg6) a + S1.size a ≤ S20480.size a) ∧
  (∀ a, (k0_off3 arg6) a + S1.size a ≤ S20480.size a) ∧
  (128 ∣ (k0_mult1 arg6).toNat) ∧
  (∀ a, (k0_off4 arg6) a + S1x128.size a ≤ S160x128.size a) ∧
  (∀ a, (k0_off5 arg6) a + S48x128.size a ≤ S48x20480.size a) ∧
  (∀ a, (k0_off8 arg6) a + S48x128.size a ≤ S48x20480.size a)
theorem k0_off2_inb : ∀ (arg6 : BitVec 32) (k0_hw2 : k0_chk2 arg6), ∀ a, (k0_off2 arg6) a + S1.size a ≤ S20480.size a := fun arg6 k0_hw2 => k0_hw2.1
theorem k0_off3_inb : ∀ (arg6 : BitVec 32) (k0_hw2 : k0_chk2 arg6), ∀ a, (k0_off3 arg6) a + S1.size a ≤ S20480.size a := fun arg6 k0_hw2 => k0_hw2.2.1
theorem k0_mult1_dvd : ∀ (arg6 : BitVec 32) (k0_hw2 : k0_chk2 arg6), 128 ∣ (k0_mult1 arg6).toNat := fun arg6 k0_hw2 => k0_hw2.2.2.1
theorem k0_off4_inb : ∀ (arg6 : BitVec 32) (k0_hw2 : k0_chk2 arg6), ∀ a, (k0_off4 arg6) a + S1x128.size a ≤ S160x128.size a := fun arg6 k0_hw2 => k0_hw2.2.2.2.1
theorem k0_off5_inb : ∀ (arg6 : BitVec 32) (k0_hw2 : k0_chk2 arg6), ∀ a, (k0_off5 arg6) a + S48x128.size a ≤ S48x20480.size a := fun arg6 k0_hw2 => k0_hw2.2.2.2.2.1
theorem k0_off8_inb : ∀ (arg6 : BitVec 32) (k0_hw2 : k0_chk2 arg6), ∀ a, (k0_off8 arg6) a + S48x128.size a ≤ S48x20480.size a := fun arg6 k0_hw2 => k0_hw2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S160x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x20480 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GatherReference.lean ====
abbrev S20480 : Shape := ⟨1, ![20480]⟩
abbrev S1700000x192 : Shape := ⟨2, ![1700000, 192]⟩
abbrev S_ : Shape := ⟨0, ![]⟩
abbrev S20480x1 : Shape := ⟨2, ![20480, 1]⟩
abbrev S20480x192 : Shape := ⟨2, ![20480, 192]⟩
abbrev S20480x48x4 : Shape := ⟨3, ![20480, 48, 4]⟩
abbrev S20480x48 : Shape := ⟨2, ![20480, 48]⟩
abbrev S48x20480 : Shape := ⟨2, ![48, 20480]⟩

abbrev nBuf : Space → Nat
  | .hbm => 14
  | .vmem => 0
  | .smem => 0
  | _ => 0

abbrev bufTy : (tb : Table) → Fin (tcTables nBuf tb) → BufTy
  | .hbm, ⟨0, _⟩ => ⟨S20480, .i32⟩
  | .hbm, ⟨1, _⟩ => ⟨S1700000x192, .i8⟩
  | .hbm, ⟨2, _⟩ => ⟨S_, .i32⟩
  | .hbm, ⟨3, _⟩ => ⟨S20480, .i32⟩
  | .hbm, ⟨4, _⟩ => ⟨S20480, .i1⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S20480x1, .i32⟩
  | .hbm, ⟨10, _⟩ => ⟨S20480x192, .i8⟩
  | .hbm, ⟨11, _⟩ => ⟨S20480x48x4, .i8⟩
  | .hbm, ⟨12, _⟩ => ⟨S20480x48, .i32⟩
  | .hbm, ⟨13, _⟩ => ⟨S48x20480, .i32⟩
  | _, _ => ⟨S20480, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Row.lean ====
/- What one row of the table becomes, as extended reals: the quantities both programs compute for a row, from the row's
   gradient, its 192 old codes, and its scale, bias and momentum. Also the two equations between the programs' ways of
   computing a row: the bag counts cut in two bytes before the product, and the last conversion to a byte. -/
module

public import Idealize.ShloMosaic.Lib.Pointwise

@[expose] public section

noncomputable section

namespace Cert.Row

open Idealize.ShloMosaic

/-! ## One row after its update -/

variable (g q : Fin 192 → EReal) (ts tb mo : EReal)

/-- The row's new momentum: the old one plus the mean of the squared gradient. -/
def mom : EReal := mo + Ideal.div (∑ d, g d * g d) (Ideal.ofBits .f32 0x43400000#32)

/-- The row's new weight at one of its 192 places: the old code dequantized, less the gradient step. -/
def new (d : Fin 192) : EReal :=
  q d * ts + tb - Ideal.div (Ideal.ofBits .f32 0x3DCCCCCD#32 * g d) (Ideal.sqrt (mom g mo) + Ideal.ofBits .f32 0x322BCC77#32)

/-- The least of a row's weights. -/
def low (w : Fin 192 → EReal) : EReal := Finset.univ.fold min (Ideal.ofBits .f32 0x7F800000#32) w

/-- The greatest of a row's weights. -/
def high (w : Fin 192 → EReal) : EReal := Finset.univ.fold max (Ideal.ofBits .f32 0xFF800000#32) w

/-- The row's new scale. -/
def scale (w : Fin 192 → EReal) : EReal :=
  if high w = low w then 1 else Ideal.div (high w - low w) (Ideal.ofBits .f32 0x437F0000#32)

/-- The row's new code before its conversion to a byte: rounded to the nearest integer and clipped to [0, 255]. -/
def level (w : Fin 192 → EReal) (d : Fin 192) : EReal :=
  min (Ideal.ofBits .f32 0x437F0000#32) (max (((0#32 : BitVec 32).toInt : ℝ) : EReal)
    (Ideal.liftRound Ideal.roundHalfEven (Ideal.div (w d - low w) (scale w))))

/-- The row's new code. -/
def code (w : Fin 192 → EReal) (d : Fin 192) : BitVec 8 := Ideal.fptoui 8 (level w d)

/-! ## The last conversion -/

theorem ofBits_255 : Ideal.ofBits .f32 0x437F0000#32 = ((255 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

/-- In [0, 255], converting to a signed 32-bit word and keeping the low byte is converting to an unsigned byte. -/
theorem byte_of_word (x : EReal) :
    BitVec.setWidth 8 (Ideal.fptosi 32 (min ((255 : ℝ) : EReal) (max ((0 : ℝ) : EReal) x)))
      = Ideal.fptoui 8 (min ((255 : ℝ) : EReal) (max ((0 : ℝ) : EReal) x)) := by
  obtain ⟨r, hr, h0, h1⟩ : ∃ r : ℝ, min ((255 : ℝ) : EReal) (max ((0 : ℝ) : EReal) x) = (r : EReal) ∧ 0 ≤ r ∧ r ≤ 255 := by
    induction x using EReal.rec with
    | bot => exact ⟨0, by rw [max_eq_left bot_le, min_eq_right (by exact_mod_cast (by norm_num : (0:ℝ) ≤ 255))], le_refl _, by norm_num⟩
    | top => exact ⟨255, by rw [max_eq_right le_top, min_eq_left le_top], by norm_num, le_refl _⟩
    | coe r =>
      refine ⟨min 255 (max 0 r), ?_, le_min (by norm_num) (le_max_left _ _), min_le_left _ _⟩
      rw [EReal.coe_strictMono.monotone.map_min, EReal.coe_strictMono.monotone.map_max]
  rw [hr]
  have hf0 : 0 ≤ ⌊r⌋ := Int.floor_nonneg.mpr h0
  have hf1 : ⌊r⌋ ≤ 255 := by
    have : (⌊r⌋ : ℝ) ≤ 255 := (Int.floor_le r).trans h1
    exact_mod_cast this
  unfold Ideal.fptosi Ideal.fptoui
  rw [Ideal.toIntClamped_coe, Ideal.toIntClamped_coe, if_pos h0]
  have e1 : max (-((2 ^ (32 - 1) : Nat) : Int)) (min (((2 ^ (32 - 1) : Nat) : Int) - 1) ⌊r⌋) = ⌊r⌋ := by
    norm_num; omega
  have e2 : max (0 : Int) (min (((2 ^ 8 : Nat) : Int) - 1) ⌊r⌋) = ⌊r⌋ := by
    norm_num; omega
  rw [e1, e2]
  generalize ⌊r⌋ = n at *
  obtain ⟨k, rfl⟩ := Int.eq_ofNat_of_zero_le hf0
  apply BitVec.eq_of_toNat_eq
  simp only [BitVec.toNat_setWidth, BitVec.ofInt_natCast, BitVec.toNat_ofNat]
  omega

/-- A row's code by way of a signed word. -/
theorem code_of_word (w : Fin 192 → EReal) (d : Fin 192) :
    BitVec.setWidth 8 (Ideal.fptosi 32 (level w d)) = code w d := by
  have e : level w d = min ((255 : ℝ) : EReal) (max ((0 : ℝ) : EReal)
      (Ideal.liftRound Ideal.roundHalfEven (Ideal.div (w d - low w) (scale w)))) := by
    unfold level; rw [ofBits_255]; simp
  unfold code; rw [e]; exact byte_of_word _

/-! ## The counts cut in two bytes -/

/-- The count a packed word holds for bag `x` of the first 128 (its low half). -/
def lowCount (h : BitVec 32) : EReal := ((IntOp.andi h 65535#32).toInt : ℝ)
/-- The count a packed word holds for bag `x` of the last 128 (its high half). -/
def highCount (h : BitVec 32) : EReal := ((IntOp.shrui .vector h 16#32).toInt : ℝ)

/-- Its low byte's value. -/
def lowByte (n : BitVec 32) : EReal := ((IntOp.andi n 255#32).toInt : ℝ)
/-- Its other bytes' value. -/
def highByte (n : BitVec 32) : EReal := ((IntOp.shrsi .vector n 8#32).toInt : ℝ)

theorem toInt_small {n : BitVec 32} (h : n.toNat < 65536) : n.toInt = n.toNat :=
  BitVec.toInt_eq_toNat_of_lt (by omega)

theorem toNat_low (n : BitVec 32) : (IntOp.andi n 255#32).toNat = n.toNat % 256 := by
  show (n &&& 255#32).toNat = _
  rw [BitVec.toNat_and]
  exact Nat.and_two_pow_sub_one_eq_mod n.toNat 8

theorem toInt_low (n : BitVec 32) : (IntOp.andi n 255#32).toInt = (n.toNat % 256 : Nat) := by
  rw [toInt_small (by rw [toNat_low]; omega), toNat_low]

theorem toInt_high {n : BitVec 32} (h : n.toNat < 65536) : (IntOp.shrsi .vector n 8#32).toInt = (n.toNat / 256 : Nat) := by
  show (if (8#32 : BitVec 32).toNat < 32 then n.sshiftRight' 8#32 else _).toInt = _
  rw [if_pos (by decide)]
  show (n.sshiftRight 8).toInt = _
  rw [BitVec.toInt_sshiftRight, toInt_small h, Int.shiftRight_eq_div_pow]
  norm_num

theorem lowByte_nonneg (n : BitVec 32) : 0 ≤ lowByte n := by
  unfold lowByte; rw [toInt_low]; exact_mod_cast Nat.zero_le _

theorem highByte_nonneg {n : BitVec 32} (h : n.toNat < 65536) : 0 ≤ highByte n := by
  unfold highByte; rw [toInt_high h]; exact_mod_cast Nat.zero_le _

/-- A count below 65536 is its low byte plus 256 times the rest. -/
theorem bytes_sum {n : BitVec 32} (h : n.toNat < 65536) :
    lowByte n + ((256 : ℝ) : EReal) * highByte n = ((n.toInt : ℝ) : EReal) := by
  unfold lowByte highByte
  rw [toInt_low, toInt_high h, toInt_small h, ← EReal.coe_mul, ← EReal.coe_add]
  congr 1
  have : n.toNat % 256 + 256 * (n.toNat / 256) = n.toNat := by omega
  exact_mod_cast this

theorem low_lt (h : BitVec 32) : (IntOp.andi h 65535#32).toNat < 65536 := by
  show (h &&& 65535#32).toNat < _
  rw [BitVec.toNat_and]
  exact Nat.lt_of_le_of_lt Nat.and_le_right (by decide)

theorem high_lt (h : BitVec 32) : (IntOp.shrui .vector h 16#32).toNat < 65536 := by
  show (if (16#32 : BitVec 32).toNat < 32 then h >>> (16#32 : BitVec 32) else _).toNat < _
  rw [if_pos (by decide)]
  show (h >>> 16).toNat < _
  rw [BitVec.toNat_ushiftRight, Nat.shiftRight_eq_div_pow]
  have := h.isLt
  show h.toNat / 2 ^ 16 < 65536
  omega

theorem coe256_mul_sum {ι : Type} (s : Finset ι) (f : ι → EReal) :
    ((256 : ℝ) : EReal) * ∑ i ∈ s, f i = ∑ i ∈ s, ((256 : ℝ) : EReal) * f i := by
  classical
  induction s using Finset.induction_on with
  | empty => simp
  | insert a s ha ih =>
    rw [Finset.sum_insert ha, Finset.sum_insert ha,
      EReal.left_distrib_of_nonneg_of_ne_top (by exact_mod_cast (by norm_num : (0:ℝ) ≤ 256)) (EReal.coe_ne_top _), ih]

/-- One sum of products with the low bytes plus 256 times the sum with the rest is the sum of products with the counts. -/
theorem sum_bytes {K : Nat} (a : Fin K → EReal) (n : Fin K → BitVec 32) (h : ∀ k, (n k).toNat < 65536) :
    (∑ k, a k * lowByte (n k)) + ((256 : ℝ) : EReal) * ∑ k, a k * highByte (n k) = ∑ k, ((n k).toInt : ℝ) * a k := by
  rw [coe256_mul_sum, ← Finset.sum_add_distrib]
  refine Finset.sum_congr rfl fun k _ => ?_
  rw [EReal.mul_comm (((n k).toInt : ℝ) : EReal), ← bytes_sum (h k),
    EReal.left_distrib_of_nonneg (lowByte_nonneg _) (mul_nonneg (by exact_mod_cast (by norm_num : (0:ℝ) ≤ 256)) (highByte_nonneg (h k)))]
  congr 1
  rw [mul_left_comm]

/-- A row's gradient at one place: over the bags, the row's count in the bag times the bag's gradient; `a` is the gradient of
    the first 128 bags, `b` of the last, `h` the packed counts. -/
def grad (a b : Fin 128 → EReal) (h : Fin 128 → BitVec 32) : EReal :=
  (∑ x, lowCount (h x) * a x) + ∑ x, highCount (h x) * b x

/-- THE GRADIENT BY BYTES is the gradient. -/
theorem grad_of_bytes (a b : Fin 128 → EReal) (h : Fin 128 → BitVec 32) :
    (∑ x, a x * lowByte (IntOp.andi (h x) 65535#32)) + (∑ x, b x * lowByte (IntOp.shrui .vector (h x) 16#32))
      + Ideal.ofBits .f32 0x43800000#32 * ((∑ x, a x * highByte (IntOp.andi (h x) 65535#32))
          + ∑ x, b x * highByte (IntOp.shrui .vector (h x) 16#32)) = grad a b h := by
  rw [ofBits_256, EReal.left_distrib_of_nonneg_of_ne_top (by exact_mod_cast (by norm_num : (0:ℝ) ≤ 256)) (EReal.coe_ne_top _),
    add_add_add_comm, sum_bytes a _ fun k => low_lt (h k), sum_bytes b _ fun k => high_lt (h k)]
  rfl

/-! ## The bytes of a packed code word -/

/-- Byte `k` of a word, as a word. -/
def byte (w : BitVec 32) (k : Nat) : BitVec 32 := w >>> (8 * k) &&& 255#32

/-- A word's byte widened with zeros is the word shifted and masked. -/
theorem setWidth_extract (w : BitVec 32) (k : Nat) : BitVec.setWidth 32 (w.extractLsb' (8 * k) 8) = byte w k := by
  apply BitVec.eq_of_toNat_eq
  unfold byte
  rw [BitVec.toNat_and, BitVec.toNat_ushiftRight, BitVec.toNat_setWidth, BitVec.extractLsb'_toNat]
  rw [show (255#32 : BitVec 32).toNat = 2 ^ 8 - 1 from rfl, Nat.and_two_pow_sub_one_eq_mod]
  omega

end Cert.Row

end
-- ==== Proof.Block.lean ====
/- What one grid point of the kernel computes, read at an index of its block: every value the body stores is the row
   function of Row.lean, of the block's column. -/
module

public import proofs.«01_k».proof.Proof.Gen.KernelIdeal.Frame
public import proofs.«01_k».proof.Proof.Row
public import Idealize.ShloMosaic.Lib.Pointwise
public import Idealize.ShloMosaic.Lib.BitcastPair

@[expose] public section

set_option maxRecDepth 16384

noncomputable section

namespace Cert.KernelIdeal.Block

open Cert.KernelIdeal Cert.KernelIdeal.Gen Idealize.ShloMosaic

/-- Words of four bytes read as bytes: row `d` of the bytes is byte `d % 4` of row `d / 4` of the words. -/
theorem bitcast_at (x : Vec Ideal S48x512 .i32) (d : Fin 192) (r : Fin 512) :
    BitVec.setWidth 32 (bitcast S192x512 8 x bitcasts_S48x512_w32_S192x512_w8 (ix2 d r))
      = Row.byte (x (ix2 (⟨d.val / 4, by omega⟩ : Fin 48) r)) (d.val % 4) := by
  rw [← Row.setWidth_extract]
  congr 1
  apply BitVec.eq_of_getLsbD_eq
  intro i hi
  rw [bitcast_getLsbD x _ _ i hi (by decide), BitVec.getLsbD_extractLsb']
  have hrow : S192x512.row (ix2 d r) = d.val := rfl
  have eq : (S192x512.row (ix2 d r) * 8 + i) % 32 = 8 * (d.val % 4) + i := by rw [hrow]; omega
  have ej : bitcasts_S48x512_w32_S192x512_w8.srcIdx (ix2 d r) ((S192x512.row (ix2 d r) * 8 + i) / 32)
      (fun a ha => (Nat.div_lt_iff_lt_mul (by decide)).2 (bitcasts_S48x512_w32_S192x512_w8.pos_lt (ix2 d r) i hi a ha))
      = ix2 (⟨d.val / 4, by omega⟩ : Fin 48) r := by
    funext c
    match c with
    | ⟨0, _⟩ =>
      refine Fin.ext ((Shape.Bitcasts.srcIdx_row _ _ _ _ ⟨0, Nat.zero_lt_two⟩ rfl).trans ?_)
      rw [hrow]
      show (d.val * 8 + i) / 32 = d.val / 4
      omega
    | ⟨1, _⟩ => exact Fin.ext (Shape.Bitcasts.srcIdx_other _ _ _ _ ⟨1, Nat.one_lt_two⟩ (by show ¬ 1 + 2 = 2; omega))
  rw [ej, eq]
  simp [hi]

section
variable (v0 v7 : Vec Ideal S1x192x128 .fp8e4m3) (v3 v10 : Vec Ideal S1x128 .f32) (v15 : Vec Ideal S128x512 .i32)
  (v43 : Vec Ideal S48x512 .i32) (v47 v51 v34 : Vec Ideal S1x512 .f32)

/-- The block's gradient. -/
theorem grad_at (d : Fin 192) (r : Fin 512) : k0_pay2 v0 v3 v7 v10 v15 (ix2 d r)
    = Row.grad (fun x => v0 (ix3 (0 : Fin 1) d x) * v3 (ix2 (0 : Fin 1) x)) (fun x => v7 (ix3 (0 : Fin 1) d x) * v10 (ix2 (0 : Fin 1) x)) fun x => v15 (ix2 x r) := by
  refine Eq.trans ?_ (Row.grad_of_bytes _ _ _)
  pointwise [k0_pay2]
  rfl

/-- The block's new momentum. -/
theorem mom_at (r : Fin 512) : k0_pay5 (k0_pay3 v34) (k0_pay4 v0 v3 v7 v10 v15) (ix2 (0 : Fin 1) r)
    = Row.mom (fun d => k0_pay2 v0 v3 v7 v10 v15 (ix2 d r)) (v34 (ix2 (0 : Fin 1) r)) := by
  unfold Row.mom
  pointwise [k0_pay5, k0_pay4, k0_pay3]

/-- The block's new weights. -/
theorem new_at (d : Fin 192) (r : Fin 512) :
    k0_pay6 (k0_pay2 v0 v3 v7 v10 v15) (k0_pay3 v34) (k0_pay4 v0 v3 v7 v10 v15) v43 v47 v51 (ix2 d r)
    = Row.new (fun d => k0_pay2 v0 v3 v7 v10 v15 (ix2 d r))
        (fun d => (((Row.byte (v43 (ix2 (⟨d.val / 4, by omega⟩ : Fin 48) r)) (d.val % 4)).toInt : ℝ) : EReal))
        (v47 (ix2 (0 : Fin 1) r)) (v51 (ix2 (0 : Fin 1) r)) (v34 (ix2 (0 : Fin 1) r)) d := by
  unfold Row.new Row.mom
  beta_reduce
  rw [← bitcast_at]
  pointwise [k0_pay6, k0_pay5, k0_pay4, k0_pay3]
  rfl
end

section
variable (v33 : FVec Ideal S192x512 .f32) (v35 : FVec Ideal S1x512 .f32) (v36 : FVec Ideal S192x512 .f32) (v43 : Vec Ideal S48x512 .i32) (v47 v51 : Vec Ideal S1x512 .f32)

/-- The block's new biases. -/
theorem low_at (r : Fin 512) : k0_pay7 v33 v35 v36 v43 v47 v51 (ix2 (0 : Fin 1) r)
    = Row.low fun d => k0_pay6 v33 v35 v36 v43 v47 v51 (ix2 d r) := by
  unfold Row.low
  pointwise [k0_pay7]

/-- The block's new scales. -/
theorem scale_at (r : Fin 512) : k0_pay8 v33 v35 v36 v43 v47 v51 (ix2 (0 : Fin 1) r)
    = Row.scale fun d => k0_pay6 v33 v35 v36 v43 v47 v51 (ix2 d r) := by
  unfold Row.scale Row.low Row.high
  pointwise [k0_pay8, k0_pay7]

/-- The block's new codes. -/
theorem code_at (d : Fin 192) (r : Fin 512) :
    k0_pay1 (k0_pay6 v33 v35 v36 v43 v47 v51) (k0_pay7 v33 v35 v36 v43 v47 v51) (k0_pay8 v33 v35 v36 v43 v47 v51) (ix2 d r)
    = Row.code (fun d => k0_pay6 v33 v35 v36 v43 v47 v51 (ix2 d r)) d := by
  rw [← Row.code_of_word]
  unfold Row.level
  rw [← low_at, ← scale_at]
  pointwise [k0_pay1]
  rfl
end

/-! ## The body's values over the input windows' blocks -/

section
variable (x0 : Vec Ideal S2x192x128 .fp8e4m3) (x1 : Vec Ideal S2x128 .f32) (x2 : Vec Ideal S128x512 .i32)
  (x3 : Vec Ideal S48x512 .i32) (x4 x5 x6 : Vec Ideal S1x512 .f32)

theorem ld0 (d : Fin 192) (x : Fin 128) : View.ld x0 r0_0 (ix3 (0 : Fin 1) d x) = x0 (ix3 (0 : Fin 2) d x) := by
  show x0 (r0_0.idx _) = _
  congr 1; funext a; apply Fin.ext
  match a with
  | ⟨0, _⟩ => rfl
  | ⟨1, _⟩ => show 0 + 1 * d.val = d.val; omega
  | ⟨2, _⟩ => show 0 + 1 * x.val = x.val; omega
theorem ld1 (x : Fin 128) : View.ld x1 r0_1 (ix2 (0 : Fin 1) x) = x1 (ix2 (0 : Fin 2) x) := by
  show x1 (r0_1.idx _) = _
  congr 1; funext a; apply Fin.ext
  match a with
  | ⟨0, _⟩ => rfl
  | ⟨1, _⟩ => show 0 + 1 * x.val = x.val; omega
theorem ld2 (d : Fin 192) (x : Fin 128) : View.ld x0 r0_2 (ix3 (0 : Fin 1) d x) = x0 (ix3 (1 : Fin 2) d x) := by
  show x0 (r0_2.idx _) = _
  congr 1; funext a; apply Fin.ext
  match a with
  | ⟨0, _⟩ => rfl
  | ⟨1, _⟩ => show 0 + 1 * d.val = d.val; omega
  | ⟨2, _⟩ => show 0 + 1 * x.val = x.val; omega
theorem ld3 (x : Fin 128) : View.ld x1 r0_3 (ix2 (0 : Fin 1) x) = x1 (ix2 (1 : Fin 2) x) := by
  show x1 (r0_3.idx _) = _
  congr 1; funext a; apply Fin.ext
  match a with
  | ⟨0, _⟩ => rfl
  | ⟨1, _⟩ => show 0 + 1 * x.val = x.val; omega
theorem ld4 : View.ld x2 r0_4 = x2 := View.ld_unit_zero (S := S128x512) (funext fun a => by fin_cases a <;> rfl) _ x2
theorem ld5 (x : Vec Ideal S1x512 .f32) : View.ld x r0_5 = x := View.ld_unit_zero (S := S1x512) (funext fun a => by fin_cases a <;> rfl) _ x

/-- The block's gradient over the windows' blocks. -/
theorem grad_blk (d : Fin 192) (r : Fin 512) : k0_pay9 x0 x1 x2 x3 x4 x5 x6 (ix2 d r)
    = Row.grad (fun x => x0 (ix3 (0 : Fin 2) d x) * x1 (ix2 (0 : Fin 2) x)) (fun x => x0 (ix3 (1 : Fin 2) d x) * x1 (ix2 (1 : Fin 2) x)) fun x => x2 (ix2 x r) := by
  have e (a a' b b' : Fin 128 → EReal) (h h' : Fin 128 → BitVec 32) (ha : a = a') (hb : b = b') (hh : h = h') : Row.grad a b h = Row.grad a' b' h' := by
    rw [ha, hb, hh]
  refine (grad_at _ _ _ _ _ d r).trans (e _ _ _ _ _ _ (funext fun x => ?_) (funext fun x => ?_) (funext fun x => ?_))
  · exact congrArg₂ (· * ·) (ld0 x0 d x) (ld1 x1 x)
  · exact congrArg₂ (· * ·) (ld2 x0 d x) (ld3 x1 x)
  · exact congrFun (ld4 x2) (ix2 x r)

theorem mom_blk (r : Fin 512) : k0_pay5 (k0_pay10 x0 x1 x2 x3 x4 x5 x6) (k0_pay11 x0 x1 x2 x3 x4 x5 x6) (ix2 (0 : Fin 1) r)
    = Row.mom (fun d => k0_pay9 x0 x1 x2 x3 x4 x5 x6 (ix2 d r)) (x6 (ix2 (0 : Fin 1) r)) := by
  unfold k0_pay9 k0_pay10 k0_pay11
  rw [mom_at, ld5]

theorem new_blk (d : Fin 192) (r : Fin 512) :
    k0_pay6 (k0_pay9 x0 x1 x2 x3 x4 x5 x6) (k0_pay10 x0 x1 x2 x3 x4 x5 x6) (k0_pay11 x0 x1 x2 x3 x4 x5 x6) x3 x4 x5 (ix2 d r)
    = Row.new (fun d => k0_pay9 x0 x1 x2 x3 x4 x5 x6 (ix2 d r))
        (fun d => (((Row.byte (x3 (ix2 (⟨d.val / 4, by omega⟩ : Fin 48) r)) (d.val % 4)).toInt : ℝ) : EReal))
        (x4 (ix2 (0 : Fin 1) r)) (x5 (ix2 (0 : Fin 1) r)) (x6 (ix2 (0 : Fin 1) r)) d := by
  unfold k0_pay9 k0_pay10 k0_pay11
  rw [new_at, ld5]
end

end Cert.KernelIdeal.Block

end
-- ==== Proof.Result.lean ====
/- The four result arrays as functions of the argument arrays, row by row: what both programs leave. -/
module

public import proofs.«01_k».proof.Proof.Gen.KernelIdeal
public import proofs.«01_k».proof.Proof.Row
public import Idealize.ShloMosaic.Lib.Pointwise

@[expose] public section

noncomputable section

namespace Cert.Result

open Cert.KernelIdeal Idealize.ShloMosaic

variable (gc : Vec Ideal S2x128x192 .fp8e4m3) (gs : Vec Ideal S2x128 .f32) (hist : Vec Ideal S128x20480 .i32)
  (words : Vec Ideal S48x20480 .i32) (ts tb mo : Vec Ideal S20480 .f32)

/-- Row `r`'s gradient at place `d`. -/
def grad (r : Fin 20480) (d : Fin 192) : EReal :=
  Row.grad (fun x => gc (ix3 (0 : Fin 2) x d) * gs (ix2 (0 : Fin 2) x)) (fun x => gc (ix3 (1 : Fin 2) x d) * gs (ix2 (1 : Fin 2) x))
    fun x => hist (ix2 x r)

/-- Row `r`'s old code at place `d`: byte `d % 4` of word `d / 4`. -/
def old (r : Fin 20480) (d : Fin 192) : EReal :=
  (((Row.byte (words (ix2 (⟨d.val / 4, by omega⟩ : Fin 48) r)) (d.val % 4)).toInt : ℝ) : EReal)

/-- Row `r`'s new weight at place `d`. -/
def weight (r : Fin 20480) (d : Fin 192) : EReal :=
  Row.new (grad gc gs hist r) (old words r) (ts (ix1 r)) (tb (ix1 r)) (mo (ix1 r)) d

/-- The new codes, transposed. -/
def codes : Vec Ideal S192x20480 .i8 := fun i => Row.code (weight gc gs hist words ts tb mo (i 1)) (i 0)
/-- The new scales. -/
def scales : Vec Ideal S1x20480 .f32 := fun i => Row.scale (weight gc gs hist words ts tb mo (i 1))
/-- The new biases. -/
def biases : Vec Ideal S1x20480 .f32 := fun i => Row.low (weight gc gs hist words ts tb mo (i 1))
/-- The new momenta. -/
def moms : Vec Ideal S1x20480 .f32 := fun i => Row.mom (grad gc gs hist (i 1)) (mo (ix1 (i 1)))

end Cert.Result

end
-- ==== Proof.Arrays.lean ====
/- What the kernel's four output arrays hold after its run. -/
module

public import proofs.«01_k».proof.Proof.Gen.KernelIdeal.Frame
public import proofs.«01_k».proof.Proof.Block
public import proofs.«01_k».proof.Proof.Result
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable (m : (ℓ : Loc nD τ sig) → Buf (Elt Ideal) ℓ)

/-- The windows' block indices. -/
theorem idx : ∀ t : Fin cfg0.N, win0_0.index t = ![0, 0, 0] ∧ win0_1.index t = ![0, 0] ∧ win0_2.index t = ![0, t.val] ∧ win0_3.index t = ![0, t.val]
    ∧ win0_4.index t = ![0, t.val] ∧ win0_5.index t = ![0, t.val] ∧ win0_6.index t = ![0, t.val] ∧ win0_7.index t = ![0, t.val]
    ∧ win0_8.index t = ![0, t.val] ∧ win0_9.index t = ![0, t.val] ∧ win0_10.index t = ![0, t.val] :=
  (by decide +kernel : ∀ t : Fin grid0.N, _)

/-- The array place of column `r` of block `t`. -/
def col (t : Fin cfg0.N) (r : Fin 512) : Fin 20480 := ⟨t.val * 512 + r.val, by have := t.isLt; have h : cfg0.N = 40 := rfl; omega⟩

section
variable (c : Dev nD) (t : Fin cfg0.N)
theorem blk0 (a : Fin 2) (d : Fin 192) (x : Fin 128) : iblk m c 0 t (ix3 a d x) = m ((c : Thread nD τ).loc main_arg0) (ix3 a x d) := by
  blk_point [iblk, V, idx t]
theorem blk1 (a : Fin 2) (x : Fin 128) : iblk m c 1 t (ix2 a x) = m ((c : Thread nD τ).loc main_arg1) (ix2 a x) := by
  blk_point [iblk, V, idx t]
theorem blk2 (x : Fin 128) (r : Fin 512) : iblk m c 2 t (ix2 x r) = m ((c : Thread nD τ).loc main_arg2) (ix2 x (col t r)) := by
  blk_point [iblk, V, idx t, col]
theorem blk3 (x : Fin 48) (r : Fin 512) : iblk m c 3 t (ix2 x r) = m ((c : Thread nD τ).loc main_arg3) (ix2 x (col t r)) := by
  blk_point [iblk, V, idx t, col]
theorem blk4 (r : Fin 512) : iblk m c 4 t (ix2 (0 : Fin 1) r) = m ((c : Thread nD τ).loc main_arg4) (ix1 (col t r)) := by
  blk_point [iblk, V, idx t, col]
theorem blk5 (r : Fin 512) : iblk m c 5 t (ix2 (0 : Fin 1) r) = m ((c : Thread nD τ).loc main_arg5) (ix1 (col t r)) := by
  blk_point [iblk, V, idx t, col]
theorem blk6 (r : Fin 512) : iblk m c 6 t (ix2 (0 : Fin 1) r) = m ((c : Thread nD τ).loc main_arg6) (ix1 (col t r)) := by
  blk_point [iblk, V, idx t, col]

end

/-- The gradient at column `r` of block `t`. -/
theorem grad_pt (c : Dev nD) (t : Fin cfg0.N) (d : Fin 192) (r : Fin 512) :
    k0_pay9 (iblk m c 0 t) (iblk m c 1 t) (iblk m c 2 t) (iblk m c 3 t) (iblk m c 4 t) (iblk m c 5 t) (iblk m c 6 t) (ix2 d r)
      = Result.grad (m ((c : Thread nD τ).loc main_arg0)) (m ((c : Thread nD τ).loc main_arg1)) (m ((c : Thread nD τ).loc main_arg2)) (col t r) d := by
  refine (Block.grad_blk _ _ _ _ _ _ _ d r).trans ?_
  unfold Result.grad
  simp only [blk0, blk1, blk2]

/-- The new weights at column `r` of block `t`. -/
theorem weight_pt (c : Dev nD) (t : Fin cfg0.N) (d : Fin 192) (r : Fin 512) :
    k0_pay6 (k0_pay9 (iblk m c 0 t) (iblk m c 1 t) (iblk m c 2 t) (iblk m c 3 t) (iblk m c 4 t) (iblk m c 5 t) (iblk m c 6 t))
        (k0_pay10 (iblk m c 0 t) (iblk m c 1 t) (iblk m c 2 t) (iblk m c 3 t) (iblk m c 4 t) (iblk m c 5 t) (iblk m c 6 t))
        (k0_pay11 (iblk m c 0 t) (iblk m c 1 t) (iblk m c 2 t) (iblk m c 3 t) (iblk m c 4 t) (iblk m c 5 t) (iblk m c 6 t))
        (iblk m c 3 t) (iblk m c 4 t) (iblk m c 5 t) (ix2 d r)
      = Result.weight (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (col t r) d := by
  refine (Block.new_blk _ _ _ _ _ _ _ d r).trans ?_
  unfold Result.weight Result.old
  simp only [grad_pt, blk3, blk4, blk5, blk6]

/-- The array index of a code of block `t`. -/
theorem emb7 (t : Fin cfg0.N) (d : Fin 192) (r : Fin 512) : ((cfg0.win 7).blk t).view.emb (ix2 d r) = ix2 d (col t r) := by
  blk_ext [idx t, col]
/-- The array index of an element of the row results. -/
theorem emb8 (t : Fin cfg0.N) (r : Fin 512) : ((cfg0.win 8).blk t).view.emb (ix2 (0 : Fin 1) r) = ix2 (0 : Fin 1) (col t r) := by
  blk_ext [idx t, col]
theorem emb9 (t : Fin cfg0.N) (r : Fin 512) : ((cfg0.win 9).blk t).view.emb (ix2 (0 : Fin 1) r) = ix2 (0 : Fin 1) (col t r) := by
  blk_ext [idx t, col]
theorem emb10 (t : Fin cfg0.N) (r : Fin 512) : ((cfg0.win 10).blk t).view.emb (ix2 (0 : Fin 1) r) = ix2 (0 : Fin 1) (col t r) := by
  blk_ext [idx t, col]

theorem row_cases (y : S1x512.Idx) : ∃ r : Fin 512, y = ix2 (0 : Fin 1) r :=
  ⟨y 1, funext fun a => match a with | ⟨0, _⟩ => Subsingleton.elim (α := Fin 1) _ _ | ⟨1, _⟩ => rfl⟩
theorem blk_cases (y : S192x512.Idx) : ∃ (d : Fin 192) (r : Fin 512), y = ix2 d r :=
  ⟨y 0, y 1, funext fun a => match a with | ⟨0, _⟩ => rfl | ⟨1, _⟩ => rfl⟩

theorem final10 (c : Dev nD) : (dats m 0 c).arrAt 10 (cfgs 0).N
    = Result.moms (m ((c : Thread nD τ).loc main_arg0)) (m ((c : Thread nD τ).loc main_arg1)) (m ((c : Thread nD τ).loc main_arg2)) (m ((c : Thread nD τ).loc main_arg6)) := by
  refine (dats m 0 c).arrAt_eq_of_covers 10 _ (by decide +kernel) fun t _ y => ?_
  obtain ⟨r, rfl⟩ := row_cases y
  refine Eq.trans ?_ (congrArg _ (emb10 t r)).symm
  blk_simp
  rw [after0_10]; frame_out
  refine (Block.mom_blk _ _ _ _ _ _ _ r).trans ?_
  unfold Result.moms
  simp only [grad_pt, blk6]
  rfl

theorem final9 (c : Dev nD) : (dats m 0 c).arrAt 9 (cfgs 0).N
    = Result.biases (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  obtain ⟨r, rfl⟩ := row_cases y
  refine Eq.trans ?_ (congrArg _ (emb9 t r)).symm
  blk_simp
  rw [after0_9]; frame_out
  refine (Block.low_at _ _ _ _ _ _ r).trans ?_
  simp only [weight_pt]
  rfl

theorem final8 (c : Dev nD) : (dats m 0 c).arrAt 8 (cfgs 0).N
    = Result.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨r, rfl⟩ := row_cases y
  refine Eq.trans ?_ (congrArg _ (emb8 t r)).symm
  blk_simp
  rw [after0_8]; frame_out
  refine (Block.scale_at _ _ _ _ _ _ r).trans ?_
  simp only [weight_pt]
  rfl

theorem final7 (c : Dev nD) : (dats m 0 c).arrAt 7 (cfgs 0).N
    = Result.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  obtain ⟨d, r, rfl⟩ := blk_cases y
  refine Eq.trans ?_ (congrArg _ (emb7 t d r)).symm
  blk_simp
  rw [after0_7]; frame_out
  refine (Block.code_at _ _ _ _ _ _ d r).trans ?_
  simp only [weight_pt]
  rfl

/-- The kernel's run: its four results are the arrays of `Result`, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = Result.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = Result.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_2) = Result.biases (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_3) = Result.moms (m ((c : Thread nD τ).loc main_arg0)) (m ((c : Thread nD τ).loc main_arg1)) (m ((c : Thread nD τ).loc main_arg2)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 7).trans (final7 m c), ((h.1 c).1 8).trans (final8 m c),
      ((h.1 c).1 9).trans (final9 m c), ((h.1 c).1 10).trans (final10 m c), h.2 c⟩)
    (θ_run_and (run_main m ρ) (unchanged m ρ))

end Cert.KernelIdeal.Arrays

end
-- ==== Proof.RefRow.lean ====
/- What the reference computes, read at an index: every value it stores is the row function of Row.lean, of the row. -/
module

public import proofs.«01_k».proof.Proof.Gen.ReferenceIdeal.Skeleton
public import proofs.«01_k».proof.Proof.Row
public import Idealize.ShloMosaic.Lib.Pointwise

@[expose] public section

set_option maxRecDepth 16384

noncomputable section

namespace Cert.ReferenceIdeal.RefRow

open Cert.ReferenceIdeal Cert.ReferenceIdeal.Gen Idealize.ShloMosaic

section
variable (v0 : Vec Ideal S2x128x192 .fp8e4m3) (v2 : Vec Ideal S2x128 .f32) (v7 : Vec Ideal S128x20480 .i32)

/-- The gradient. -/
theorem grad_at (d : Fin 192) (r : Fin 20480) : k0_pay5 v0 v2 v7 (ix2 r d)
    = Row.grad (fun x => v0 (ix3 (0 : Fin 2) x d) * v2 (ix2 (0 : Fin 2) x)) (fun x => v0 (ix3 (1 : Fin 2) x d) * v2 (ix2 (1 : Fin 2) x)) fun x => v7 (ix2 x r) := by
  unfold Row.grad
  pointwise [k0_pay5]
  refine congrArg₂ (· + ·) (Finset.sum_congr rfl fun x _ => ?_) (Finset.sum_congr rfl fun x _ => ?_)
  · refine congrArg₂ (· * ·) rfl ?_
    have e0 : (⟨x.val / 128, by omega⟩ : Fin 2) = 0 := Fin.ext (by show x.val / 128 = 0; omega)
    have e1 : (⟨x.val % 128, by omega⟩ : Fin 128) = x := Fin.ext (by show x.val % 128 = x.val; omega)
    rw [e0, e1]
  · refine congrArg₂ (· * ·) rfl ?_
    have e0 : (⟨(128 + x.val) / 128, by omega⟩ : Fin 2) = 1 := Fin.ext (by show (128 + x.val) / 128 = 1; omega)
    have e1 : (⟨(128 + x.val) % 128, by omega⟩ : Fin 128) = x := Fin.ext (by show (128 + x.val) % 128 = x.val; omega)
    rw [e0, e1]
end

section
variable (g : FVec Ideal S20480x192 .f32) (wd : Vec Ideal S48x20480 .i32) (ts tb mo : Vec Ideal S20480 .f32)

/-- The new momentum. -/
theorem mom_at (r : Fin 20480) : k0_pay10 g mo (ix1 r) = Row.mom (fun d => g (ix2 r d)) (mo (ix1 r)) := by
  unfold Row.mom
  pointwise [k0_pay10]

theorem byte_cases (w : BitVec 32) (k : Nat) (hk : k < 4) :
    (if k < 1 then IntOp.andi (IntOp.shrui .vector w 0#32) 255#32 else if k - 1 < 1 then IntOp.andi (IntOp.shrui .vector w 8#32) 255#32
      else if k - 1 - 1 < 1 then IntOp.andi (IntOp.shrui .vector w 16#32) 255#32
      else IntOp.andi (IntOp.shrui .vector w 24#32) 255#32) = Row.byte w k := by
  interval_cases k <;> rfl

/-- The new weights. -/
theorem new_at (d : Fin 192) (r : Fin 20480) :
    k0_pay11 g (k0_pay6 wd) (k0_pay7 wd) (k0_pay8 wd) (k0_pay9 wd) 255#32 ts tb mo (ix2 r d)
    = Row.new (fun d => g (ix2 r d))
        (fun d => (((Row.byte (wd (ix2 (⟨d.val / 4, by omega⟩ : Fin 48) r)) (d.val % 4)).toInt : ℝ) : EReal))
        (ts (ix1 r)) (tb (ix1 r)) (mo (ix1 r)) d := by
  unfold Row.new Row.mom
  beta_reduce
  rw [← byte_cases _ _ (Nat.mod_lt _ (by decide))]
  pointwise [k0_pay11, k0_pay10, k0_pay6, k0_pay7, k0_pay8, k0_pay9]
  rfl
end

/-! The values after the new weights, each as a function of the weights alone. -/

section
variable (w : FVec Ideal S20480x192 .f32) (mn sc : FVec Ideal S20480 .f32)

/-- The row minimum of the weights. -/
def lowOf : FVec Ideal S20480 .f32 := multiReduction .minimumf [1] S20480 w 0x7F800000#32 reduces_S20480x192_S20480 (.inl rfl) rfl
/-- The row maximum of the weights. -/
def highOf : FVec Ideal S20480 .f32 := multiReduction .maximumf [1] S20480 w 0xFF800000#32 reduces_S20480x192_S20480 (.inl rfl) rfl
/-- The scale from the row extremes. -/
def scaleOf (mx mn : FVec Ideal S20480 .f32) : FVec Ideal S20480 .f32 :=
  select (cmpf .oeq mx mn) (broadcast S20480 (Scalar.ofBits .f32 0x3F800000#32 : Ideal .f32))
    (divf (subf mx mn) (broadcast S20480 (Scalar.ofBits .f32 0x437F0000#32 : Ideal .f32)))
/-- The rounded quotient of the weights. -/
def levelOf : FVec Ideal S20480x192 .f32 :=
  roundeven (divf (subf w (broadcastTo S20480x192 (shapeCast S20480x1 mn shapeCasts_S20480_S20480x1) broadcasts_S20480x1_S20480x192))
    (broadcastTo S20480x192 (shapeCast S20480x1 sc shapeCasts_S20480_S20480x1) broadcasts_S20480x1_S20480x192))

theorem lowOf_at (r : Fin 20480) : lowOf w (ix1 r) = Row.low fun d => w (ix2 r d) := by
  unfold Row.low
  pointwise [lowOf]
theorem highOf_at (r : Fin 20480) : highOf w (ix1 r) = Row.high fun d => w (ix2 r d) := by
  unfold Row.high
  pointwise [highOf]
theorem scaleOf_at (mx mn : FVec Ideal S20480 .f32) (r : Fin 20480) : scaleOf mx mn (ix1 r)
    = if mx (ix1 r) = mn (ix1 r) then 1 else Ideal.div (mx (ix1 r) - mn (ix1 r)) (Ideal.ofBits .f32 0x437F0000#32) := by
  pointwise [scaleOf]
theorem levelOf_at (r : Fin 20480) (d : Fin 192) : levelOf w mn sc (ix2 r d)
    = Ideal.liftRound Ideal.roundHalfEven (Ideal.div (w (ix2 r d) - mn (ix1 r)) (sc (ix1 r))) := by
  pointwise [levelOf]
/-- The codes' conversion and transpose. -/
theorem convert_at (l : FVec Ideal S20480x192 .f32) (r : Fin 20480) (d : Fin 192) : k0_pay1 l 0#32 (ix2 d r)
    = Ideal.fptoui 8 (min (Ideal.ofBits .f32 0x437F0000#32) (max (((0#32 : BitVec 32).toInt : ℝ) : EReal) (l (ix2 r d)))) := by
  pointwise [k0_pay1]
  rfl
/-- A row vector's shape cast. -/
theorem flat_at (x : FVec Ideal S20480 .f32) (r : Fin 20480) : shapeCast S1x20480 x shapeCasts_S20480_S1x20480 (ix2 (0 : Fin 1) r) = x (ix1 r) := by
  pointwise []

/-- The weights' row minimum, whole. -/
theorem low_at (r : Fin 20480) : lowOf w (ix1 r) = Row.low fun d => w (ix2 r d) := lowOf_at w r
/-- The weights' scale. -/
theorem scale_at (r : Fin 20480) : scaleOf (highOf w) (lowOf w) (ix1 r) = Row.scale fun d => w (ix2 r d) := by
  rw [scaleOf_at, lowOf_at, highOf_at]; rfl
/-- The weights' codes. -/
theorem code_at (r : Fin 20480) (d : Fin 192) : k0_pay1 (levelOf w (lowOf w) (scaleOf (highOf w) (lowOf w))) 0#32 (ix2 d r)
    = Row.code (fun d => w (ix2 r d)) d := by
  rw [convert_at, levelOf_at, lowOf_at, scale_at]; rfl
end

section
variable (v15 : FVec Ideal S20480x192 .f32) (v20 v25 v30 v33 : IVec S48x20480 32) (c : BitVec 32) (v44 v48 v52 : Vec Ideal S20480 .f32)

theorem pay12_eq : k0_pay12 v15 v20 v25 v30 v33 c v44 v48 v52 = lowOf (k0_pay11 v15 v20 v25 v30 v33 c v44 v48 v52) := rfl
theorem pay13_eq : k0_pay13 v15 v20 v25 v30 v33 c v44 v48 v52
    = scaleOf (highOf (k0_pay11 v15 v20 v25 v30 v33 c v44 v48 v52)) (lowOf (k0_pay11 v15 v20 v25 v30 v33 c v44 v48 v52)) := rfl
theorem pay14_eq : k0_pay14 v15 v20 v25 v30 v33 c v44 v48 v52
    = levelOf (k0_pay11 v15 v20 v25 v30 v33 c v44 v48 v52) (k0_pay12 v15 v20 v25 v30 v33 c v44 v48 v52) (k0_pay13 v15 v20 v25 v30 v33 c v44 v48 v52) := rfl
end

end Cert.ReferenceIdeal.RefRow

end
-- ==== Proof.RefArrays.lean ====
/- What the reference leaves in its four result arrays. -/
module

public import proofs.«01_k».proof.Proof.Gen.ReferenceIdeal.Value
public import proofs.«01_k».proof.Proof.RefRow
public import proofs.«01_k».proof.Proof.Result

@[expose] public section

set_option maxRecDepth 16384

noncomputable section

namespace Cert.ReferenceIdeal.RefArrays

open Cert.ReferenceIdeal Cert.ReferenceIdeal.Gen Idealize.ShloMosaic

variable (a0 : Vec Ideal S2x128x192 .fp8e4m3) (a1 : Vec Ideal S2x128 .f32) (a2 : Vec Ideal S128x20480 .i32)
  (a3 : Vec Ideal S48x20480 .i32) (a4 a5 a6 : Vec Ideal S20480 .f32)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem pay15_eq : k0_pay15 a0 a1 a2 a3 a4 a5 a6 = k0_pay5 a0 a1 a2 := by
  unfold k0_pay15
  rw [View.ld_unit_zero (S := S2x128x192) hz3 _ a0, View.ld_unit_zero (S := S2x128) hz2 _ a1, View.ld_unit_zero (S := S128x20480) hz2 _ a2]
theorem pay16_eq : k0_pay16 a0 a1 a2 a3 a4 a5 a6 = k0_pay6 a3 := by
  unfold k0_pay16; rw [View.ld_unit_zero (S := S48x20480) hz2 _ a3]
theorem pay17_eq : k0_pay17 a0 a1 a2 a3 a4 a5 a6 = k0_pay7 a3 := by
  unfold k0_pay17; rw [View.ld_unit_zero (S := S48x20480) hz2 _ a3]
theorem pay18_eq : k0_pay18 a0 a1 a2 a3 a4 a5 a6 = k0_pay8 a3 := by
  unfold k0_pay18; rw [View.ld_unit_zero (S := S48x20480) hz2 _ a3]
theorem pay19_eq : k0_pay19 a0 a1 a2 a3 a4 a5 a6 = k0_pay9 a3 := by
  unfold k0_pay19; rw [View.ld_unit_zero (S := S48x20480) hz2 _ a3]

theorem grad_eq (r : Fin 20480) (d : Fin 192) : k0_pay15 a0 a1 a2 a3 a4 a5 a6 (ix2 r d) = Result.grad a0 a1 a2 r d := by
  rw [pay15_eq]; exact RefRow.grad_at a0 a1 a2 d r

/-- The reference's new weights, as one array. -/
def weights : FVec Ideal S20480x192 .f32 :=
  k0_pay11 (k0_pay15 a0 a1 a2 a3 a4 a5 a6) (k0_pay16 a0 a1 a2 a3 a4 a5 a6) (k0_pay17 a0 a1 a2 a3 a4 a5 a6) (k0_pay18 a0 a1 a2 a3 a4 a5 a6)
    (k0_pay19 a0 a1 a2 a3 a4 a5 a6) 255#32 a4 a5 a6

theorem weight_eq (r : Fin 20480) (d : Fin 192) : weights a0 a1 a2 a3 a4 a5 a6 (ix2 r d) = Result.weight a0 a1 a2 a3 a4 a5 a6 r d := by
  unfold weights
  rw [pay16_eq, pay17_eq, pay18_eq, pay19_eq, RefRow.new_at]
  simp only [grad_eq]
  rfl

theorem row_cases (y : S1x20480.Idx) : ∃ r : Fin 20480, y = ix2 (0 : Fin 1) r :=
  ⟨y 1, funext fun a => match a with | ⟨0, _⟩ => Subsingleton.elim (α := Fin 1) _ _ | ⟨1, _⟩ => rfl⟩
theorem blk_cases (y : S192x20480.Idx) : ∃ (d : Fin 192) (r : Fin 20480), y = ix2 d r :=
  ⟨y 0, y 1, funext fun a => match a with | ⟨0, _⟩ => rfl | ⟨1, _⟩ => rfl⟩

/-- The momenta. -/
theorem moms_eq : Value.G10 a0 a1 a2 a3 a4 a5 a6 = Result.moms a0 a1 a2 a6 := by
  funext y
  obtain ⟨r, rfl⟩ := row_cases y
  show shapeCast S1x20480 (k0_pay10 (k0_pay15 a0 a1 a2 a3 a4 a5 a6) a6) shapeCasts_S20480_S1x20480 (ix2 (0 : Fin 1) r) = _
  rw [RefRow.flat_at, RefRow.mom_at]
  simp only [grad_eq]
  rfl

/-- The biases. -/
theorem biases_eq : Value.G9 a0 a1 a2 a3 a4 a5 a6 = Result.biases a0 a1 a2 a3 a4 a5 a6 := by
  funext y
  obtain ⟨r, rfl⟩ := row_cases y
  show shapeCast S1x20480 (RefRow.lowOf (weights a0 a1 a2 a3 a4 a5 a6)) shapeCasts_S20480_S1x20480 (ix2 (0 : Fin 1) r) = _
  rw [RefRow.flat_at, RefRow.low_at]
  simp only [weight_eq]
  rfl

/-- The scales. -/
theorem scales_eq : Value.G8 a0 a1 a2 a3 a4 a5 a6 = Result.scales a0 a1 a2 a3 a4 a5 a6 := by
  funext y
  obtain ⟨r, rfl⟩ := row_cases y
  show shapeCast S1x20480 (RefRow.scaleOf (RefRow.highOf (weights a0 a1 a2 a3 a4 a5 a6)) (RefRow.lowOf (weights a0 a1 a2 a3 a4 a5 a6)))
    shapeCasts_S20480_S1x20480 (ix2 (0 : Fin 1) r) = _
  rw [RefRow.flat_at, RefRow.scale_at]
  simp only [weight_eq]
  rfl

/-- The codes. -/
theorem codes_eq : Value.G7 a0 a1 a2 a3 a4 a5 a6 = Result.codes a0 a1 a2 a3 a4 a5 a6 := by
  funext y
  obtain ⟨d, r, rfl⟩ := blk_cases y
  show k0_pay1 (RefRow.levelOf (weights a0 a1 a2 a3 a4 a5 a6) (RefRow.lowOf (weights a0 a1 a2 a3 a4 a5 a6))
    (RefRow.scaleOf (RefRow.highOf (weights a0 a1 a2 a3 a4 a5 a6)) (RefRow.lowOf (weights a0 a1 a2 a3 a4 a5 a6)))) 0#32 (ix2 d r) = _
  rw [RefRow.code_at]
  simp only [weight_eq]
  rfl

section
open Idealize.SL.Sem
variable (m : (ℓ : Loc nD τ sig) → Buf (Elt Ideal) ℓ)

/-- The reference's run: its four results are the arrays of `Result`, its arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = Result.codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = Result.scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_2) = Result.biases (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_3) = Result.moms (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (codes_eq _ _ _ _ _ _ _), (h c).2.1.trans (scales_eq _ _ _ _ _ _ _),
      (h c).2.2.1.trans (biases_eq _ _ _ _ _ _ _), (h c).2.2.2.1.trans (moms_eq _ _ _ _ _ _ _), (h c).2.2.2.2⟩)
    (Value.run m ρ)
end

end Cert.ReferenceIdeal.RefArrays

end
-- ==== Proof.GatherArith.lean ====
/-
  The words the gather computes its addresses from. `i` is the grid point, `v12` and `v20` the first and the last row
  index of a tile of 128 columns. The bounds below hold for EVERY value of the two words: the lower end is cut at 0
  and the upper at 63, so a group of 16 column tiles of the table block is always one of the four there are, or the
  loop over the groups has no trip. The second loop the printer writes (the remainder of an unrolling by one)
  never has a trip.
-/
module

public import proofs.«01_k».proof.Proof.Gen.Gather.Skeleton

@[expose] public section

namespace Cert.Gather.Arith

open Idealize.ShloMosaic Cert.Gather

/-! ## Words as integers -/

theorem toInt_sub_eq (x y : BitVec 32) (h1 : -2147483648 ≤ x.toInt - y.toInt) (h2 : x.toInt - y.toInt < 2147483648) :
    (x - y).toInt = x.toInt - y.toInt := by
  rw [BitVec.toInt_sub]
  exact Int.bmod_eq_of_le (by omega) (by omega)

theorem toInt_add_eq (x y : BitVec 32) (h1 : -2147483648 ≤ x.toInt + y.toInt) (h2 : x.toInt + y.toInt < 2147483648) :
    (x + y).toInt = x.toInt + y.toInt := by
  rw [BitVec.toInt_add]
  exact Int.bmod_eq_of_le (by omega) (by omega)

theorem toInt_maxsi (x y : BitVec 32) : (Scalar.maxsi x y).toInt = max x.toInt y.toInt := by
  show (if y.slt x then x else y).toInt = _
  have : y.slt x = decide (y.toInt < x.toInt) := rfl
  rw [this]; split <;> rename_i h <;> simp at h <;> omega

theorem toInt_minsi (x y : BitVec 32) : (Scalar.minsi x y).toInt = min x.toInt y.toInt := by
  show (if x.slt y then x else y).toInt = _
  have : x.slt y = decide (x.toInt < y.toInt) := rfl
  rw [this]; split <;> rename_i h <;> simp at h <;> omega

theorem toInt_shr (x : BitVec 32) (n : Nat) (hn : n < 32) :
    (Scalar.shrsi x (BitVec.ofNat 32 n)).toInt = x.toInt / (2 ^ n : Nat) := by
  have e : (BitVec.ofNat 32 n).toNat = n := by rw [BitVec.toNat_ofNat]; omega
  show (if (BitVec.ofNat 32 n).toNat < 32 then x.sshiftRight' (BitVec.ofNat 32 n) else _).toInt = _
  rw [if_pos (by omega)]
  show (x.sshiftRight (BitVec.ofNat 32 n).toNat).toInt = _
  rw [e, BitVec.toInt_sshiftRight, Int.shiftRight_eq_div_pow]

theorem bounds (x : BitVec 32) : -2147483648 ≤ x.toInt ∧ x.toInt < 2147483648 := by
  have := BitVec.le_toInt x
  have := BitVec.toInt_lt (x := x)
  omega

theorem dvd_mul (x : BitVec 32) : 128 ∣ (Scalar.muli x 128#32).toNat := by
  show 128 ∣ (x * 128#32).toNat
  rw [BitVec.toNat_mul]
  show 128 ∣ x.toNat * 128 % 4294967296
  omega

theorem divsi_one (x : BitVec 32) : Scalar.divsi x 1#32 = x := by
  show IntOp.divsi .scalar x 1#32 = x
  unfold IntOp.divsi
  rw [if_neg (by unfold IntOp.SDivCorner; simp), BitVec.sdiv_one]

/-- 64 column tiles of the table a chunk: the first of chunk `i`. -/
abbrev base (i : grid0.Coords) : BitVec 32 := Scalar.muli (BitVec.ofNat 32 (i 0).val) 64#32

theorem base_toNat (i : grid0.Coords) : (base i).toNat = 64 * (i 0).val := by
  have h : (i 0).val < 208 := (i 0).isLt
  show (BitVec.ofNat 32 (i 0).val * 64#32).toNat = _
  rw [BitVec.toNat_mul, BitVec.toNat_ofNat]
  show _ % 4294967296 * 64 % 4294967296 = _
  omega

theorem base_toInt (i : grid0.Coords) : (base i).toInt = 64 * ((i 0).val : Int) := by
  have h : (i 0).val < 208 := (i 0).isLt
  have := base_toNat i
  rw [BitVec.toInt_eq_toNat_of_lt (by omega)]
  omega

/-! ## The loop over the groups of 16 column tiles -/

/-- The first group. -/
abbrev glo (i : grid0.Coords) (v12 : BitVec 32) : BitVec 32 :=
  Scalar.shrsi (Scalar.maxsi (Scalar.subi (Scalar.shrsi v12 7#32) (base i)) 0#32) 4#32
/-- One past the last. -/
abbrev ghi (i : grid0.Coords) (v20 : BitVec 32) : BitVec 32 :=
  Scalar.addi (Scalar.shrsi (Scalar.minsi (Scalar.subi (Scalar.shrsi v20 7#32) (base i)) 63#32) 4#32) 1#32

theorem toInt_tile (i : grid0.Coords) (v : BitVec 32) :
    (Scalar.subi (Scalar.shrsi v 7#32) (base i)).toInt = v.toInt / 128 - 64 * ((i 0).val : Int) := by
  have h : (i 0).val < 208 := (i 0).isLt
  have hb := bounds v
  have hs : (Scalar.shrsi v 7#32).toInt = v.toInt / 128 := toInt_shr v 7 (by decide)
  have hq := base_toInt i
  show (Scalar.shrsi v 7#32 - base i).toInt = _
  rw [toInt_sub_eq _ _ (by omega) (by omega), hs, hq]

theorem glo_toInt (i : grid0.Coords) (v : BitVec 32) :
    (glo i v).toInt = max (v.toInt / 128 - 64 * ((i 0).val : Int)) 0 / 16 := by
  have h := toInt_shr (Scalar.maxsi (Scalar.subi (Scalar.shrsi v 7#32) (base i)) 0#32) 4 (by decide)
  rw [toInt_maxsi, toInt_tile] at h
  exact h

theorem ghi_toInt (i : grid0.Coords) (v : BitVec 32) :
    (ghi i v).toInt = min (v.toInt / 128 - 64 * ((i 0).val : Int)) 63 / 16 + 1 := by
  have h := toInt_shr (Scalar.minsi (Scalar.subi (Scalar.shrsi v 7#32) (base i)) 63#32) 4 (by decide)
  have h63 : (63#32).toInt = 63 := by decide
  rw [toInt_minsi, toInt_tile, h63] at h
  have hi : (i 0).val < 208 := (i 0).isLt
  have hb := bounds v
  have h1 : (1#32).toInt = 1 := by decide
  show (Scalar.shrsi _ 4#32 + 1#32).toInt = _
  have h' : (Scalar.shrsi (Scalar.minsi (Scalar.subi (Scalar.shrsi v 7#32) (base i)) 63#32) 4#32).toInt
      = min (v.toInt / 128 - 64 * ((i 0).val : Int)) 63 / 16 := h
  rw [toInt_add_eq _ _ (by omega) (by omega), h', h1]

theorem loop1_ub (i : grid0.Coords) (v12 v20 : BitVec 32) : (k0_t1_loop i v12 v20).ub = ghi i v20 := by
  show glo i v12 + Scalar.divsi (ghi i v20 - glo i v12) 1#32 * 1#32 = ghi i v20
  rw [divsi_one, BitVec.mul_one]
  exact (BitVec.add_comm _ _).trans (BitVec.sub_add_cancel _ _)

theorem loop1_lb (i : grid0.Coords) (v12 v20 : BitVec 32) : (k0_t1_loop i v12 v20).lb = glo i v12 := rfl
theorem loop1_st (i : grid0.Coords) (v12 v20 : BitVec 32) : (k0_t1_loop i v12 v20).st = 1#32 := rfl
theorem loop2_st (i : grid0.Coords) (v12 v20 : BitVec 32) : (k0_t2_loop i v12 v20).st = 1#32 := rfl

theorem loop2_lb (i : grid0.Coords) (v12 v20 : BitVec 32) : (k0_t2_loop i v12 v20).lb = ghi i v20 := loop1_ub i v12 v20
theorem loop2_ub (i : grid0.Coords) (v12 v20 : BitVec 32) : (k0_t2_loop i v12 v20).ub = ghi i v20 := by
  show glo i v12 + (ghi i v20 - glo i v12) = ghi i v20
  exact (BitVec.add_comm _ _).trans (BitVec.sub_add_cancel _ _)

theorem trips_one (lb ub : BitVec 32) : Scf.trips lb ub 1#32 = (ub.toInt - lb.toInt).toNat := by
  have h1 : (1#32).toInt = 1 := by decide
  unfold Scf.trips
  rw [h1, Int.ediv_one]
  congr 1
  omega

theorem loop1_trips (i : grid0.Coords) (v12 v20 : BitVec 32) :
    (k0_t1_loop i v12 v20).trips = ((ghi i v20).toInt - (glo i v12).toInt).toNat := by
  show Scf.trips _ (k0_t1_loop i v12 v20).ub _ = _
  rw [loop1_ub]; exact trips_one _ _

theorem loop2_trips (i : grid0.Coords) (v12 v20 : BitVec 32) : (k0_t2_loop i v12 v20).trips = 0 := by
  show Scf.trips (k0_t2_loop i v12 v20).lb (k0_t2_loop i v12 v20).ub _ = _
  rw [loop2_ub, loop2_lb]
  refine (trips_one _ _).trans ?_
  omega

theorem loop1_ok (i : grid0.Coords) (v12 v20 : BitVec 32) : (k0_t1_loop i v12 v20).OK := by
  have h1 : (1#32).toInt = 1 := by decide
  have e := loop1_trips i v12 v20
  have g := glo_toInt i v12
  have g' := ghi_toInt i v20
  have b := bounds v12
  have b' := bounds v20
  have hi : (i 0).val < 208 := (i 0).isLt
  refine ⟨?_, ?_⟩
  · show 0 < (1#32).toInt
    omega
  · show (glo i v12).toInt + ((k0_t1_loop i v12 v20).trips : Int) * (1#32).toInt < 2147483648
    rw [e, h1]
    omega

theorem loop2_ok (i : grid0.Coords) (v12 v20 : BitVec 32) : (k0_t2_loop i v12 v20).OK := by
  have h1 : (1#32).toInt = 1 := by decide
  have e := loop2_trips i v12 v20
  have g' := ghi_toInt i v20
  have b' := bounds v20
  have hi : (i 0).val < 208 := (i 0).isLt
  refine ⟨?_, ?_⟩
  · show 0 < (1#32).toInt
    omega
  · show (k0_t2_loop i v12 v20).lb.toInt + ((k0_t2_loop i v12 v20).trips : Int) * (1#32).toInt < 2147483648
    rw [e, h1, loop2_lb]
    omega

/-- The group of trip `k`. -/
abbrev grp (i : grid0.Coords) (v12 : BitVec 32) (k : Nat) : BitVec 32 := Scf.iv (glo i v12) 1#32 k

theorem grp_toInt (i : grid0.Coords) (v12 v20 : BitVec 32) {k : Nat} (hk : k ≤ (k0_t1_loop i v12 v20).trips) :
    (grp i v12 k).toInt = (glo i v12).toInt + k := by
  have h1 : (1#32).toInt = 1 := by decide
  have := Scf.toInt_iv (loop1_ok i v12 v20) hk
  refine this.trans ?_
  show (glo i v12).toInt + (k : Int) * (1#32).toInt = _
  rw [h1]; omega

theorem grp_lt (i : grid0.Coords) (v12 v20 : BitVec 32) {k : Nat} (hk : k < (k0_t1_loop i v12 v20).trips) :
    (grp i v12 k).toNat < 4 ∧ (grp i v12 k).toInt = (grp i v12 k).toNat := by
  have e := loop1_trips i v12 v20
  have g := glo_toInt i v12
  have g' := ghi_toInt i v20
  have hi : (i 0).val < 208 := (i 0).isLt
  have h := grp_toInt i v12 v20 (Nat.le_of_lt hk)
  have hlt : (grp i v12 k).toInt < 4 := by omega
  have h0 : 0 ≤ (grp i v12 k).toInt := by omega
  have hn : (grp i v12 k).toInt = (grp i v12 k).toNat := by
    rw [BitVec.toInt_eq_toNat_cond] at h0 hlt ⊢
    have := (grp i v12 k).isLt
    split <;> rename_i hc
    · rfl
    · rw [if_neg hc] at h0; omega
  omega

/-- The column at which tile `u` of group `g` begins. -/
theorem col_toNat (g : BitVec 32) (u : Nat) (hg : g.toNat < 4) (hu : u < 16) :
    (Scalar.muli (Scalar.addi (Scalar.muli g 16#32) (BitVec.ofNat 32 u)) 128#32).toNat = 128 * (16 * g.toNat + u) := by
  show ((g * 16#32 + BitVec.ofNat 32 u) * 128#32).toNat = _
  rw [BitVec.toNat_mul, BitVec.toNat_add, BitVec.toNat_mul, BitVec.toNat_ofNat]
  show ((g.toNat * 16 % 4294967296 + u % 4294967296) % 4294967296) * 128 % 4294967296 = _
  omega

theorem off6_eq (i : grid0.Coords) (v12 v20 : BitVec 32) (k : Fin (k0_t1_loop i v12 v20).trips) (u : Nat) (hu : u < 16) :
    k0_off6 i v12 v20 k (BitVec.ofNat 32 u) = ![0, 128 * (16 * (grp i v12 k).toNat + u)] := by
  have := col_toNat (grp i v12 k) u (grp_lt i v12 v20 k.isLt).1 hu
  show ![0, (Scalar.muli (Scalar.addi (Scalar.muli (grp i v12 k) 16#32) (BitVec.ofNat 32 u)) 128#32).toNat] = _
  rw [this]

theorem chk3 (i : grid0.Coords) (v12 v20 : BitVec 32) : k0_chk3 i v12 v20 := by
  have h2 := loop2_trips i v12 v20
  refine ⟨⟨loop1_ok i v12 v20, fun _ => dvd_mul _, ?_, fun _ => dvd_mul _, fun _ => dvd_mul _, fun _ => dvd_mul _,
    fun _ => dvd_mul _, fun _ => dvd_mul _, fun _ => dvd_mul _, fun _ => dvd_mul _, fun _ => dvd_mul _,
    fun _ => dvd_mul _, fun _ => dvd_mul _, fun _ => dvd_mul _, fun _ => dvd_mul _, fun _ => dvd_mul _,
    fun _ => dvd_mul _, fun _ => dvd_mul _, loop2_ok i v12 v20, fun _ => dvd_mul _, ?_, fun _ => dvd_mul _,
    fun _ => dvd_mul _, fun _ => dvd_mul _, fun _ => dvd_mul _, fun _ => dvd_mul _, fun _ => dvd_mul _,
    fun _ => dvd_mul _, fun _ => dvd_mul _, fun _ => dvd_mul _, fun _ => dvd_mul _, fun _ => dvd_mul _⟩,
    fun _ => dvd_mul _, fun _ => dvd_mul _, fun _ => dvd_mul _, fun _ => dvd_mul _⟩
  · intro k r a
    rw [off6_eq i v12 v20 k r.val r.isLt]
    have hg := (grp_lt i v12 v20 k.isLt).1
    have hr := r.isLt
    match a with
    | ⟨0, _⟩ => show 0 + 192 ≤ 192; omega
    | ⟨1, _⟩ => show 128 * (16 * (grp i v12 k).toNat + r.val) + 128 ≤ 8192; omega
  · intro k
    have := k.isLt
    omega

/-! ## The tile counter -/

/-- The counter of a tile as a word. -/
abbrev wd (j : Nat) : BitVec 32 := BitVec.ofNat 32 j

theorem wd_toNat {j : Nat} (hj : j < 500) : (wd j).toNat = j := by
  rw [BitVec.toNat_ofNat]; omega

theorem wd_toInt {j : Nat} (hj : j < 500) : (wd j).toInt = j := by
  have := wd_toNat hj
  rw [BitVec.toInt_eq_toNat_of_lt (by omega), this]

theorem off1_eq {j : Nat} (hj : j < 500) : k0_off1 (wd j) = ![128 * min j 159] := by
  have e : (Scalar.minsi (wd j) 159#32).toInt = min (j : Int) 159 := by
    have h : (159#32).toInt = 159 := by decide
    rw [toInt_minsi, wd_toInt hj, h]
  have en : (Scalar.minsi (wd j) 159#32).toNat = min j 159 := by
    have hb := (Scalar.minsi (wd j) 159#32).isLt
    rw [BitVec.toInt_eq_toNat_cond] at e
    split at e <;> omega
  show ![(Scalar.minsi (wd j) 159#32 * 128#32).toNat] = _
  rw [BitVec.toNat_mul, en]
  congr 1
  show min j 159 * 128 % 4294967296 = _
  omega

theorem chk1 {j : Nat} (hj : j < 500) : k0_chk1 (wd j) := by
  intro a
  rw [off1_eq hj]
  match a with
  | ⟨0, _⟩ => show 128 * min j 159 + 1 ≤ 20480; omega

theorem off2_eq {j : Nat} (hj : j < 160) : k0_off2 (wd j) = ![128 * j] := by
  show ![(wd j * 128#32).toNat] = _
  rw [BitVec.toNat_mul, wd_toNat (by omega)]
  congr 1
  show j * 128 % 4294967296 = _
  omega

theorem off3_eq {j : Nat} (hj : j < 160) : k0_off3 (wd j) = ![128 * j + 127] := by
  show ![(wd j * 128#32 + 128#32 - 1#32).toNat] = _
  rw [BitVec.toNat_sub, BitVec.toNat_add, BitVec.toNat_mul]
  congr 1
  show (4294967295 + ((wd j).toNat * 128 % 4294967296 + 128) % 4294967296) % 4294967296 = _
  rw [wd_toNat (by omega)]
  omega

theorem off4_eq {j : Nat} (hj : j < 160) : k0_off4 (wd j) = ![j, 0] := by
  show ![(wd j).toNat, 0] = _
  rw [wd_toNat (by omega)]

theorem off5_eq {j : Nat} (hj : j < 160) : k0_off5 (wd j) = ![0, 128 * j] := by
  show ![0, (wd j * 128#32).toNat] = _
  rw [BitVec.toNat_mul, wd_toNat (by omega)]
  congr 2
  show j * 128 % 4294967296 = _
  omega

theorem off8_eq {j : Nat} (hj : j < 160) : k0_off8 (wd j) = ![0, 128 * j] := off5_eq hj

theorem chk2 {j : Nat} (hj : j < 160) : k0_chk2 (wd j) := by
  refine ⟨fun a => ?_, fun a => ?_, dvd_mul _, fun a => ?_, fun a => ?_, fun a => ?_⟩
  · rw [off2_eq hj]
    match a with
    | ⟨0, _⟩ => show 128 * j + 1 ≤ 20480; omega
  · rw [off3_eq hj]
    match a with
    | ⟨0, _⟩ => show 128 * j + 127 + 1 ≤ 20480; omega
  · rw [off4_eq hj]
    match a with
    | ⟨0, _⟩ => show j + 1 ≤ 160; omega
    | ⟨1, _⟩ => show 0 + 128 ≤ 128; omega
  · rw [off5_eq hj]
    match a with
    | ⟨0, _⟩ => show 0 + 48 ≤ 48; omega
    | ⟨1, _⟩ => show 128 * j + 128 ≤ 20480; omega
  · rw [off8_eq hj]
    match a with
    | ⟨0, _⟩ => show 0 + 48 ≤ 48; omega
    | ⟨1, _⟩ => show 128 * j + 128 ≤ 20480; omega

end Cert.Gather.Arith

end
-- ==== Proof.GatherStep.lean ====
/-
  What one trip of the gather's inner loop does to the tile it accumulates: of the 16 column tiles of one group, the
  column a lane asks for is taken where the lane's row lies in that tile, and the rest of the lanes keep what they had.
  A word is told by its bytes (`Word`): byte `q` of word `k` of a row is code `4k + q` of that row.
-/
module

public import proofs.«01_k».proof.Proof.GatherArith
public import Idealize.ShloMosaic.Lib.BitcastFour
public import Idealize.ShloMosaic.Lib.ValueLayout
public import Idealize.ShloMosaic.Lib.Pipeline.Value
public import Idealize.ShloMosaic.PureOps.BitExact

@[expose] public section

noncomputable section

namespace Cert.Gather.Step

open Idealize.ShloMosaic Idealize.ShloMosaic.ValueIdx Cert.Gather Cert.Gather.Gen Cert.Gather.Arith

/-! ## A word of a row -/

/-- `w` is word `k` of the row whose 192 codes are `b`: its bytes are codes `4k, …, 4k + 3`, the lowest first. -/
def Word (b : Fin 192 → BitVec 8) (k : Fin 48) (w : BitVec 32) : Prop :=
  ∀ q : Nat, ∀ hq : q < 32, w.getLsbD q = (b ⟨4 * k.val + q / 8, by omega⟩).getLsbD (q % 8)

theorem Word.unique {b : Fin 192 → BitVec 8} {k : Fin 48} {w w' : BitVec 32} (h : Word b k w) (h' : Word b k w') : w = w' :=
  BitVec.eq_of_getLsbD_eq fun q hq => (h q hq).trans (h' q hq).symm

/-! ## One tile of a group -/

/-- Tile `u` of group `g`, its codes `x`: where the lane's tile `v38` is this one, the column `v32` of `x` as words; else `acc`. -/
def pick (v32 v38 : IVec S48x128 32) (g u : BitVec 32) (x : Vec Bits S192x128 .i8) (acc : IVec S48x128 32) : IVec S48x128 32 :=
  select (cmpi .eq v38 (broadcast S48x128 (Scalar.addi (Scalar.muli g 16#32) u)))
    (dynamicGather 1 (bitcast S48x128 32 (shapeCast S192x128 x shapeCasts_S192x128_S192x128 : IVec S192x128 8) bitcasts_S192x128_w8_S48x128_w32)
      (shapeCast S48x128 (shapeCast S48x128x1
        (select (cmpi .slt v32 (broadcast S48x128 0#32)) (addi v32 (broadcast S48x128 128#32)) v32)
        shapeCasts_S48x128_S48x128x1) shapeCasts_S48x128x1_S48x128))
    acc

theorem eq_bit (a b : BitVec 32) : (IntOp.cmpi .eq a b = 1) ↔ a = b := by
  show BitVec.ofBool (a == b) = 1#1 ↔ _
  by_cases h : a = b
  · subst h; simp
  · have : (a == b) = false := by simp [h]
    rw [this]; simp [h]

theorem pick_ne (v32 v38 : IVec S48x128 32) (g u : BitVec 32) (x : Vec Bits S192x128 .i8) (acc : IVec S48x128 32)
    (j : S48x128.Idx) (h : v38 j ≠ Scalar.addi (Scalar.muli g 16#32) u) : pick v32 v38 g u x acc j = acc j := by
  show Scalar.select (IntOp.cmpi .eq (v38 j) _) _ _ = _
  exact if_neg (fun e => h ((eq_bit _ _).1 e))

theorem pick_eq (v32 v38 : IVec S48x128 32) (g u : BitVec 32) (x : Vec Bits S192x128 .i8) (acc : IVec S48x128 32)
    (k : Fin 48) (l n : Fin 128) (hn : v32 (ix2 k l) = BitVec.ofNat 32 n.val)
    (h : v38 (ix2 k l) = Scalar.addi (Scalar.muli g 16#32) u) :
    Word (fun d => x (ix2 d n)) k (pick v32 v38 g u x acc (ix2 k l)) := by
  have hsel : (select (cmpi .slt v32 (broadcast S48x128 0#32)) (addi v32 (broadcast S48x128 128#32)) v32 : IVec S48x128 32) (ix2 k l)
      = BitVec.ofNat 32 n.val := by
    show Scalar.select (IntOp.cmpi .slt (v32 (ix2 k l)) 0#32) _ (v32 (ix2 k l)) = _
    rw [hn]
    have hi : (BitVec.ofNat 32 n.val).toInt = n.val := wd_toInt (by omega)
    have h0 : ((BitVec.ofNat 32 n.val).slt 0#32) = false := by
      show decide ((BitVec.ofNat 32 n.val).toInt < (0#32).toInt) = false
      rw [hi]; simp
    unfold Scalar.select
    rw [if_neg]
    show ¬ (BitVec.ofBool ((BitVec.ofNat 32 n.val).slt 0#32) = 1)
    rw [h0]; decide
  have e : pick v32 v38 g u x acc (ix2 k l) = bitcast S48x128 32 (x : IVec S192x128 8) bitcasts_S192x128_w8_S48x128_w32 (ix2 k n) := by
    show Scalar.select (IntOp.cmpi .eq (v38 (ix2 k l)) _) _ _ = _
    refine (if_pos ((eq_bit _ _).2 h)).trans ?_
    rw [shapeCast_shapeCast, shapeCast_self]
    unfold dynamicGather
    congr 1
    funext b
    match b with
    | ⟨0, _⟩ => rfl
    | ⟨1, _⟩ =>
      refine Fin.ext ?_
      show ((select (cmpi .slt v32 (broadcast S48x128 0#32)) (addi v32 (broadcast S48x128 128#32)) v32 : IVec S48x128 32) (ix2 k l)).toNat % 128 = n.val
      rw [hsel, wd_toNat (by omega)]
      omega
  rw [e]
  intro q hq
  exact bitcast_8_32_getLsbD_ix2 (R := 192) (r := 48) (n := 128) x _ k n q hq ⟨4 * k.val + q / 8, by omega⟩ rfl

/-! ## The 16 tiles of a group -/

/-- The first `m` tiles of group `g`, their codes `x`. -/
def picks (v32 v38 : IVec S48x128 32) (g : BitVec 32) (x : Fin 16 → Vec Bits S192x128 .i8) (acc : IVec S48x128 32) :
    (m : Nat) → m ≤ 16 → IVec S48x128 32
  | 0, _ => acc
  | m + 1, h => pick v32 v38 g (BitVec.ofNat 32 m) (x ⟨m, h⟩) (picks v32 v38 g x acc m (Nat.le_of_succ_le h))

theorem tile_toNat (g : BitVec 32) (u : Nat) (hg : g.toNat < 4) (hu : u < 16) :
    (Scalar.addi (Scalar.muli g 16#32) (BitVec.ofNat 32 u)).toNat = 16 * g.toNat + u := by
  show (g * 16#32 + BitVec.ofNat 32 u).toNat = _
  rw [BitVec.toNat_add, BitVec.toNat_mul, BitVec.toNat_ofNat]
  show (g.toNat * 16 % 4294967296 + u % 4294967296) % 4294967296 = _
  omega

theorem picks_ne (v32 v38 : IVec S48x128 32) (g : BitVec 32) (x : Fin 16 → Vec Bits S192x128 .i8) (acc : IVec S48x128 32)
    (hg : g.toNat < 4) (j : S48x128.Idx) :
    ∀ (m : Nat) (hm : m ≤ 16), ¬ (16 * g.toNat ≤ (v38 j).toNat ∧ (v38 j).toNat < 16 * g.toNat + m) →
      picks v32 v38 g x acc m hm j = acc j
  | 0, _, _ => rfl
  | m + 1, hm, h => by
    show pick v32 v38 g (BitVec.ofNat 32 m) _ _ j = _
    rw [pick_ne _ _ _ _ _ _ _ (fun e => h (by rw [e, tile_toNat g m hg (by omega)]; omega))]
    exact picks_ne v32 v38 g x acc hg j m _ (fun h' => h (by omega))

theorem picks_eq (v32 v38 : IVec S48x128 32) (g : BitVec 32) (x : Fin 16 → Vec Bits S192x128 .i8) (acc : IVec S48x128 32)
    (hg : g.toNat < 4) (k : Fin 48) (l n : Fin 128) (hn : v32 (ix2 k l) = BitVec.ofNat 32 n.val) (u : Fin 16)
    (hu : (v38 (ix2 k l)).toNat = 16 * g.toNat + u.val) :
    ∀ (m : Nat) (hm : m ≤ 16), u.val < m → Word (fun d => x u (ix2 d n)) k (picks v32 v38 g x acc m hm (ix2 k l))
  | 0, _, h => absurd h (Nat.not_lt_zero _)
  | m + 1, hm, h => by
    have hul := u.isLt
    show Word _ k (pick v32 v38 g (BitVec.ofNat 32 m) (x ⟨m, hm⟩) _ (ix2 k l))
    by_cases e : u.val = m
    · have eu : u = ⟨m, hm⟩ := Fin.ext e
      rw [eu]
      exact pick_eq v32 v38 g _ _ _ k l n hn (BitVec.eq_of_toNat_eq (by rw [tile_toNat g m hg (by omega), hu, e]))
    · rw [pick_ne _ _ _ _ _ _ _ (fun e' => e (by
        have := congrArg BitVec.toNat e'
        rw [hu, tile_toNat g m hg (by omega)] at this
        omega))]
      exact picks_eq v32 v38 g x acc hg k l n hn u hu m _ (by omega)

/-- A trip's payloads, put together, are the 16 tiles of its group. -/
theorem group_eq (i : grid0.Coords) (v12 v20 : BitVec 32) (v32 v38 : IVec S48x128 32) (t : Fin (k0_t1_loop i v12 v20).trips)
    (acc : IVec S48x128 32) (x : Fin 16 → Vec Bits S192x128 .i8) (v39 : BitVec 32) (g : BitVec 32) (hg : g = Scf.iv v39 1#32 t) :
    k0_pay1 (F := Bits) v32 v38 g
      (k0_pay14 (F := Bits) v32 v38 g
        (k0_pay11 (F := Bits) v32 v38 g
          (k0_pay8 (F := Bits) v32 v38 g
            (k0_pay7 (F := Bits) v32 v38 g
              (k0_pay4 (F := Bits) v32 v38 g
                (k0_pay3 (F := Bits) i v12 v20 v32 v38 v39 1#32 t acc (x 0) (x 1))
                (Scalar.addi (Scalar.muli g 16#32) 2#32) (x 2) (x 3))
              (Scalar.addi (Scalar.muli g 16#32) 4#32) (k0_pay5 (F := Bits) (x 4)) (k0_pay6 v32) (x 5) (x 6))
            (Scalar.addi (Scalar.muli g 16#32) 7#32) (x 7) (x 8))
          (Scalar.addi (Scalar.muli g 16#32) 9#32) (k0_pay9 (F := Bits) (x 9)) k0_pay10 (x 10))
        (k0_pay12 (F := Bits) v32 (x 11)) (k0_pay13 v38 g) (x 12) (x 13))
      (Scalar.addi (Scalar.muli g 16#32) 14#32) (x 14) (x 15)
    = picks v32 v38 g x acc 16 (Nat.le_refl _) := by
  subst hg
  rfl

/-! ## A group against the block it is read from -/

/-- Index `l` of tile `j`, among all. -/
def lane (j : Fin 160) (l : Fin 128) : Fin 20480 := ⟨128 * j.val + l.val, by omega⟩

/-- The column of the block at which lane `l` of tile `u` of group `g` lies. -/
def col (g : BitVec 32) (hg : g.toNat < 4) (u : Fin 16) (l : Fin 128) : Fin 8192 := ⟨128 * (16 * g.toNat + u.val) + l.val, by omega⟩

section Block

variable (B : S192x8192.Idx → BitVec 8) (g : BitVec 32) (hg : g.toNat < 4) (x : Fin 16 → Vec Bits S192x128 .i8)
  (hx : ∀ (u : Fin 16) (d : Fin 192) (l : Fin 128),
    x u (ix2 d l) = B (ix2 d (col g hg u l)))

include hx in
/-- Where the lane's tile lies in the group, the word read is that of its column of the block. -/
theorem group_word (v32 v38 : IVec S48x128 32) (acc : IVec S48x128 32) (k : Fin 48) (l n : Fin 128)
    (hn : v32 (ix2 k l) = BitVec.ofNat 32 n.val) (r : Nat) (hr : r < 64) (hr' : (v38 (ix2 k l)).toNat = r) (hrg : r / 16 = g.toNat) :
    Word (fun d => B (ix2 d ⟨128 * r + n.val, by omega⟩)) k (picks v32 v38 g x acc 16 (Nat.le_refl _) (ix2 k l)) := by
  have h := picks_eq v32 v38 g x acc hg k l n hn ⟨r % 16, by omega⟩ (by rw [hr']; show r = 16 * g.toNat + r % 16; omega) 16 (Nat.le_refl _) (by show r % 16 < 16; omega)
  have e : (fun d => x ⟨r % 16, by omega⟩ (ix2 d n)) = (fun d => B (ix2 d ⟨128 * r + n.val, by omega⟩)) := by
    funext d
    rw [hx]
    congr 2
    refine Fin.ext ?_
    show 128 * (16 * g.toNat + r % 16) + n.val = 128 * r + n.val
    omega
  rw [e] at h
  exact h

include hg in
/-- Elsewhere the group changes nothing. -/
theorem group_keep (v32 v38 : IVec S48x128 32) (acc : IVec S48x128 32) (j : S48x128.Idx) (h : (v38 j).toNat / 16 ≠ g.toNat) :
    picks v32 v38 g x acc 16 (Nat.le_refl _) j = acc j :=
  picks_ne v32 v38 g x acc hg j 16 _ (fun h' => h (by omega))

end Block

/-! ## The lane's tile and column -/

theorem pay28_apply (v27 : Vec Bits S1x128 .i32) (k : Fin 48) (l : Fin 128) (r : Nat) (hr : r < 2147483648)
    (h : v27 (ix2 (0 : Fin 1) l) = BitVec.ofNat 32 r) :
    k0_pay28 (F := Bits) v27 (ix2 k l) = BitVec.ofNat 32 (r % 128) := by
  unfold k0_pay28 k0_pay27
  show broadcastTo S48x128 (shapeCast S1x128 (andi (shapeCast S1x128 v27 _) (broadcast S1x128 127#32)) _) _ (ix2 k l) = _
  rw [shapeCast_self, shapeCast_self, broadcastTo_1b_ab_apply]
  show v27 (ix2 (0 : Fin 1) l) &&& 127#32 = _
  rw [h]
  apply BitVec.eq_of_toNat_eq
  rw [BitVec.toNat_and, BitVec.toNat_ofNat, BitVec.toNat_ofNat]
  show (r % 4294967296) &&& 127 = r % 128 % 4294967296
  rw [show (127 : Nat) = 2 ^ 7 - 1 from rfl, Nat.and_two_pow_sub_one_eq_mod]
  show r % 4294967296 % 128 = _
  omega

theorem pay29_apply (i : grid0.Coords) (v27 : Vec Bits S1x128 .i32) (k : Fin 48) (l : Fin 128) (r : Nat) (hr : r < 2147483648)
    (h : v27 (ix2 (0 : Fin 1) l) = BitVec.ofNat 32 r) :
    (k0_pay29 (F := Bits) (base i) v27 (ix2 k l)).toInt = (r : Int) / 128 - 64 * ((i 0).val : Int) := by
  unfold k0_pay29 k0_pay27
  show (broadcastTo S48x128 (shapeCast S1x128 (subi (shrsi (shapeCast S1x128 v27 _) (broadcast S1x128 7#32)) (broadcast S1x128 (base i))) _) _ (ix2 k l)).toInt = _
  rw [shapeCast_self, shapeCast_self, broadcastTo_1b_ab_apply]
  have e : (BitVec.ofNat 32 r).toInt = r := by
    have : (BitVec.ofNat 32 r).toNat = r := by rw [BitVec.toNat_ofNat]; omega
    rw [BitVec.toInt_eq_toNat_of_lt (by omega), this]
  have ht := toInt_tile i (BitVec.ofNat 32 r)
  rw [e] at ht
  rw [← ht]
  show (IntOp.subi (IntOp.shrsi .vector (v27 (ix2 (0 : Fin 1) l)) 7#32) (base i)).toInt = _
  rw [h]
  rfl

end Cert.Gather.Step

end
-- ==== Proof.GatherTile.lean ====
/-
  What the gather keeps true while it goes through the row indices, 128 at a time, chunk of the table by chunk: which
  columns of the result already hold the words of their rows (`Cover`, `Done`), and how far the indices have been used up
  (`Used`). Everything is said of indices that are sorted and name rows of the table.
-/
module

public import proofs.«01_k».proof.Proof.GatherStep

@[expose] public section

noncomputable section

namespace Cert.Gather.Tile

open Idealize.ShloMosaic Idealize.ShloMosaic.ValueIdx Cert.Gather Cert.Gather.Gen Cert.Gather.Arith Cert.Gather.Step

/-! ## The loop over the groups -/

/-- After `k` groups: a lane whose column tile lies in one of them holds the word of its column, the others what they
    held at first. -/
def Groups (i : grid0.Coords) (v12 : BitVec 32) (B : S192x8192.Idx → BitVec 8) (v32 v38 init : IVec S48x128 32) (k : Nat)
    (acc : IVec S48x128 32) : Prop :=
  ∀ (kk : Fin 48) (l : Fin 128),
    ((glo i v12).toInt ≤ ((v38 (ix2 kk l)).toNat / 16 : Nat) ∧ (((v38 (ix2 kk l)).toNat / 16 : Nat) : Int) < (glo i v12).toInt + k →
      ∀ (r : Nat) (hr : r < 64), (v38 (ix2 kk l)).toNat = r → ∀ n : Fin 128, v32 (ix2 kk l) = BitVec.ofNat 32 n.val →
        Word (fun d => B (ix2 d ⟨128 * r + n.val, by omega⟩)) kk (acc (ix2 kk l)))
    ∧ (¬((glo i v12).toInt ≤ ((v38 (ix2 kk l)).toNat / 16 : Nat) ∧ (((v38 (ix2 kk l)).toNat / 16 : Nat) : Int) < (glo i v12).toInt + k) →
      acc (ix2 kk l) = init (ix2 kk l))

theorem groups_zero (i : grid0.Coords) (v12 : BitVec 32) (B : S192x8192.Idx → BitVec 8) (v32 v38 init : IVec S48x128 32) :
    Groups i v12 B v32 v38 init 0 init :=
  fun kk l => ⟨fun h => absurd h (by omega), fun _ => rfl⟩

theorem groups_succ (i : grid0.Coords) (v12 v20 : BitVec 32) (B : S192x8192.Idx → BitVec 8) (v32 v38 init acc : IVec S48x128 32)
    (k : Nat) (hk : k < (k0_t1_loop i v12 v20).trips) (x : Fin 16 → Vec Bits S192x128 .i8)
    (hx : ∀ (u : Fin 16) (d : Fin 192) (l : Fin 128), x u (ix2 d l)
      = B (ix2 d (col (grp i v12 k) (grp_lt i v12 v20 hk).1 u l)))
    (h : Groups i v12 B v32 v38 init k acc) :
    Groups i v12 B v32 v38 init (k + 1) (picks v32 v38 (grp i v12 k) x acc 16 (Nat.le_refl _)) := by
  intro kk l
  have hg := grp_lt i v12 v20 hk
  have hi := grp_toInt i v12 v20 (Nat.le_of_lt hk)
  obtain ⟨ha, hb⟩ := h kk l
  by_cases e : (v38 (ix2 kk l)).toNat / 16 = (grp i v12 k).toNat
  · refine ⟨fun _ r hr hr' n hn => ?_, fun hn => absurd ?_ hn⟩
    · exact group_word B (grp i v12 k) hg.1 x hx v32 v38 acc kk l n hn r hr hr' (by rw [← hr']; exact e)
    · omega
  · have ek := group_keep (grp i v12 k) hg.1 x v32 v38 acc (ix2 kk l) e
    refine ⟨fun hn r hr hr' n hv => ?_, fun hn => ?_⟩
    · rw [ek]; exact ha (by omega) r hr hr' n hv
    · rw [ek]; exact hb (by omega)

/-- The loop over the groups done, for a tile of 128 indices from `v12` to `v20`: a lane whose row lies in the chunk holds
    the word of that row's column, the others what they held at first. -/
theorem groups_done (i : grid0.Coords) (v12 v20 : BitVec 32) (B : S192x8192.Idx → BitVec 8) (v27 : Vec Bits S1x128 .i32)
    (init acc : IVec S48x128 32) (k : Nat) (hk : k = (k0_t1_loop i v12 v20).trips)
    (h : Groups i v12 B (k0_pay28 (F := Bits) v27) (k0_pay29 (F := Bits) (base i) v27) init k acc)
    (kk : Fin 48) (l : Fin 128) (r : Nat) (hr : r < 1700000) (hv : v27 (ix2 (0 : Fin 1) l) = BitVec.ofNat 32 r)
    (h12 : v12.toInt ≤ r) (h20 : (r : Int) ≤ v20.toInt) :
    (∀ cc : Fin 8192, 8192 * (i 0).val + cc.val = r → Word (fun d => B (ix2 d cc)) kk (acc (ix2 kk l)))
    ∧ (r < 8192 * (i 0).val → acc (ix2 kk l) = init (ix2 kk l)) := by
  have h28 := pay28_apply v27 kk l r (by omega) hv
  have h29 := pay29_apply i v27 kk l r (by omega) hv
  have hi : (i 0).val < 208 := (i 0).isLt
  obtain ⟨ha, hb⟩ := h kk l
  have ht := loop1_trips i v12 v20
  have g := glo_toInt i v12
  have g' := ghi_toInt i v20
  generalize hw : k0_pay29 (F := Bits) (base i) v27 (ix2 kk l) = w at *
  have hwl := w.isLt
  rw [BitVec.toInt_eq_toNat_cond] at h29
  refine ⟨fun cc hc => ?_, fun hlt => ?_⟩
  · have hcc := cc.isLt
    have hwn : w.toNat = r / 128 - 64 * (i 0).val := by split at h29 <;> omega
    have := ha (by omega) (r / 128 - 64 * (i 0).val) (by omega) hwn ⟨r % 128, by omega⟩ h28
    have e : (⟨128 * (r / 128 - 64 * (i 0).val) + r % 128, by omega⟩ : Fin 8192) = cc := Fin.ext (by
      show 128 * (r / 128 - 64 * (i 0).val) + r % 128 = cc.val
      omega)
    rw [← e]
    exact this
  · refine hb ?_
    have hwn : 64 ≤ w.toNat := by split at h29 <;> omega
    omega

/-! ## The columns that hold their row's words -/

section Cover

variable (rows : Fin 20480 → BitVec 32) (tb : Nat → Fin 192 → BitVec 8)

/-- The indices are sorted and each names a row of the table. -/
def Sorted : Prop := (∀ a, (rows a).toNat < 1700000) ∧ ∀ a b : Fin 20480, a ≤ b → (rows a).toNat ≤ (rows b).toNat

/-- In chunk `t`, before tile `j`: the columns of the earlier chunks' rows, and of this chunk's within the earlier tiles. -/
def Cover (t j : Nat) (fo : S48x20480.Idx → BitVec 32) : Prop :=
  ∀ (a : Fin 20480) (kk : Fin 48),
    ((rows a).toNat < 8192 * t ∨ (a.val < 128 * j ∧ (rows a).toNat < 8192 * (t + 1))) → Word (tb (rows a).toNat) kk (fo (ix2 kk a))

/-- Chunk `t` is done: the columns of its rows and of the earlier chunks'. -/
def Done (t : Nat) (fo : S48x20480.Idx → BitVec 32) : Prop :=
  ∀ (a : Fin 20480) (kk : Fin 48), (rows a).toNat < 8192 * (t + 1) → Word (tb (rows a).toNat) kk (fo (ix2 kk a))

/-- The tiles before `j` are used up: none of their rows lies after chunk `t`. -/
def Used (t j : Nat) : Prop := ∀ a : Fin 20480, a.val < 128 * j → (rows a).toNat < 8192 * (t + 1)

/-- What holds when tile `j` of chunk `t` is looked at. A counter from 320 on says that the chunk is done, and that the next
    chunk begins at the tile 320 before. -/
def Entry (t j : Nat) (fo : S48x20480.Idx → BitVec 32) : Prop :=
  (j ≤ 160 ∧ (Sorted rows → Cover rows tb t j fo ∧ Used rows t j))
  ∨ (320 ≤ j ∧ j < 480 ∧ (Sorted rows → Done rows tb t fo ∧ Used rows t (j - 320)))

/-- The tile the next chunk begins at. -/
def next (j : Nat) : Nat := if 320 ≤ j then j - 320 else j

/-- What holds when the chunk is left, at the counter `r`. -/
def Exit (t : Nat) (r : BitVec 32) (fo : S48x20480.Idx → BitVec 32) : Prop :=
  ∃ j, r = wd j ∧ (j ≤ 160 ∨ (320 ≤ j ∧ j < 480)) ∧ (Sorted rows → Done rows tb t fo ∧ Used rows t (next j))

theorem toInt_small (x : BitVec 32) (h : x.toNat < 1700000) : x.toInt = x.toNat :=
  BitVec.toInt_eq_toNat_of_lt (by omega)

/-- A chunk begins with what the chunks before have done. -/
theorem entry_of (t j : Nat) (fo : S48x20480.Idx → BitVec 32) (hj : j ≤ 160)
    (hd : t = 0 ∨ (Sorted rows → Done rows tb (t - 1) fo ∧ Used rows (t - 1) j)) (h0 : t = 0 → j = 0) : Entry rows tb t j fo := by
  refine Or.inl ⟨hj, fun hs => ?_⟩
  rcases hd with rfl | hd
  · refine ⟨fun a kk h => ?_, fun a h => ?_⟩
    · have := h0 rfl; omega
    · have := h0 rfl; omega
  · by_cases ht : t = 0
    · have := h0 ht
      refine ⟨fun a kk h => ?_, fun a h => ?_⟩ <;> (subst ht; omega)
    · obtain ⟨h1, h2⟩ := hd hs
      refine ⟨fun a kk h => h1 a kk ?_, fun a h => ?_⟩
      · rcases h with h | h
        · omega
        · exact h2 a h.1
      · have := h2 a h; omega

/-- The chunk is left at a tile whose first row lies after it, or after the last tile. -/
theorem exit_of (t j : Nat) (fo : S48x20480.Idx → BitVec 32) (h : Entry rows tb t j fo)
    (hstop : ∀ hj : j < 160, ¬ ((rows ⟨128 * j, by omega⟩).toInt / 128 < 64 * (t : Int) + 64)) : Exit rows tb t (wd j) fo := by
  refine ⟨j, rfl, ?_, fun hs => ?_⟩
  · rcases h with h | h
    · exact Or.inl h.1
    · exact Or.inr ⟨h.1, h.2.1⟩
  · unfold next
    rcases h with ⟨hj, h⟩ | ⟨hj, hj', h⟩
    · rw [if_neg (by omega)]
      obtain ⟨h1, h2⟩ := h hs
      refine ⟨fun a kk ha => h1 a kk (Or.inr ⟨?_, ha⟩), h2⟩
      have hal := a.isLt
      by_cases hlt : j < 160
      · have hf := hstop hlt
        rw [toInt_small _ (hs.1 _)] at hf
        apply Nat.lt_of_not_le
        intro hle
        have := hs.2 ⟨128 * j, by omega⟩ a hle
        omega
      · omega
    · rw [if_pos hj]
      exact h hs

/-- A tile gone through: its columns are `acc`, the others as they were. -/
theorem entry_step (i : grid0.Coords) (j : Nat) (hj : j < 160) (B : S192x8192.Idx → BitVec 8)
    (hB : ∀ (cc : Fin 8192) (d : Fin 192), 8192 * (i 0).val + cc.val < 1700000 → B (ix2 d cc) = tb (8192 * (i 0).val + cc.val) d)
    (v12 v20 : BitVec 32) (h12 : v12 = rows ⟨128 * j, by omega⟩) (h20 : v20 = rows ⟨128 * j + 127, by omega⟩)
    (v27 : Vec Bits S1x128 .i32) (hv : ∀ l : Fin 128, v27 (ix2 (0 : Fin 1) l) = rows ⟨128 * j + l.val, by omega⟩)
    (fo fo' : S48x20480.Idx → BitVec 32) (init acc : IVec S48x128 32)
    (hinit : ∀ (kk : Fin 48) (l : Fin 128), init (ix2 kk l) = fo (ix2 kk ⟨128 * j + l.val, by omega⟩))
    (hin : ∀ (kk : Fin 48) (l : Fin 128), fo' (ix2 kk ⟨128 * j + l.val, by omega⟩) = acc (ix2 kk l))
    (hout : ∀ (kk : Fin 48) (a : Fin 20480), (a.val < 128 * j ∨ 128 * j + 128 ≤ a.val) → fo' (ix2 kk a) = fo (ix2 kk a))
    (k : Nat) (hk : k = (k0_t1_loop i v12 v20).trips)
    (hG : Groups i v12 B (k0_pay28 (F := Bits) v27) (k0_pay29 (F := Bits) (base i) v27) init k acc)
    (h : Entry rows tb (i 0).val j fo) :
    (v20.toInt / 128 < 64 * ((i 0).val : Int) + 64 → Entry rows tb (i 0).val (j + 1) fo')
    ∧ (¬ (v20.toInt / 128 < 64 * ((i 0).val : Int) + 64) → Entry rows tb (i 0).val (j + 320) fo') := by
  have h' : Sorted rows → Cover rows tb (i 0).val j fo ∧ Used rows (i 0).val j := by
    rcases h with h | h
    · exact h.2
    · omega
  have hcov : Sorted rows → Cover rows tb (i 0).val (j + 1) fo' := by
    intro hs a kk ha
    obtain ⟨h1, -⟩ := h' hs
    by_cases hin' : 128 * j ≤ a.val ∧ a.val < 128 * j + 128
    · have ea : a = (⟨128 * j + (⟨a.val - 128 * j, by omega⟩ : Fin 128).val, by show 128 * j + (a.val - 128 * j) < 20480; omega⟩ : Fin 20480) :=
        Fin.ext (by show a.val = 128 * j + (a.val - 128 * j); omega)
      have hra := hs.1 a
      have hvr := hv ⟨a.val - 128 * j, by omega⟩
      rw [← ea] at hvr
      have hg := groups_done i v12 v20 B v27 init acc k hk hG kk ⟨a.val - 128 * j, by omega⟩ (rows a).toNat hra
        (by rw [hvr, BitVec.ofNat_toNat, BitVec.setWidth_eq])
        (by
          rw [h12, toInt_small _ (hs.1 _)]
          exact Int.ofNat_le.2 (hs.2 _ _ hin'.1))
        (by
          rw [h20, toInt_small _ (hs.1 _)]
          exact Int.ofNat_le.2 (hs.2 _ _ (by show a.val ≤ 128 * j + 127; omega)))
      have eo := hin kk ⟨a.val - 128 * j, by omega⟩
      rw [← ea] at eo
      rw [eo]
      by_cases hlt : (rows a).toNat < 8192 * (i 0).val
      · rw [hg.2 hlt, hinit, ← ea]
        exact h1 a kk (Or.inl hlt)
      · have hw := hg.1 ⟨(rows a).toNat - 8192 * (i 0).val, by omega⟩ (by show 8192 * (i 0).val + ((rows a).toNat - 8192 * (i 0).val) = _; omega)
        have eb : (fun d => B (ix2 d ⟨(rows a).toNat - 8192 * (i 0).val, by omega⟩)) = tb (rows a).toNat := by
          funext d
          have ht : 8192 * (i 0).val + ((rows a).toNat - 8192 * (i 0).val) = (rows a).toNat := by omega
          rw [hB _ d (by show 8192 * (i 0).val + ((rows a).toNat - 8192 * (i 0).val) < 1700000; omega)]
          show tb (8192 * (i 0).val + ((rows a).toNat - 8192 * (i 0).val)) d = _
          rw [ht]
        rw [eb] at hw
        exact hw
    · rw [hout kk a (by omega)]
      exact h1 a kk (by omega)
  refine ⟨fun hl => Or.inl ⟨by omega, fun hs => ⟨hcov hs, fun a ha => ?_⟩⟩, fun hl => Or.inr ⟨by omega, by omega, fun hs => ⟨fun a kk ha => hcov hs a kk (Or.inr ⟨?_, ha⟩), ?_⟩⟩⟩
  · rw [h20, toInt_small _ (hs.1 _)] at hl
    have := hs.2 a ⟨128 * j + 127, by omega⟩ (by show a.val ≤ 128 * j + 127; omega)
    omega
  · rw [h20, toInt_small _ (hs.1 _)] at hl
    apply Nat.lt_of_not_le
    intro hle
    have := hs.2 ⟨128 * j + 127, by omega⟩ a (by show 128 * j + 127 ≤ a.val; omega)
    omega
  · rw [Nat.add_sub_cancel]
    exact (h' hs).2

/-- The last chunk done, every column holds its row's words. -/
theorem all_done (fo : S48x20480.Idx → BitVec 32) (hs : Sorted rows) (h : Done rows tb 207 fo) (a : Fin 20480) (kk : Fin 48) :
    Word (tb (rows a).toNat) kk (fo (ix2 kk a)) :=
  h a kk (by have := hs.1 a; omega)

end Cover

end Cert.Gather.Tile

end
-- ==== Proof.GatherTrip.lean ====
/-
  One trip of the gather's inner loop, run: sixteen loads of column tiles of the table block, the block left as it was,
  the tile accumulated changed as `Step.picks` says.
-/
module

public import proofs.«01_k».proof.Proof.GatherStep
public import proofs.«01_k».proof.Proof.Gen.Gather.Launch
public import Idealize.ShloMosaic.Lib.Pipeline.Frame
public import Idealize.ShloMosaic.Lib.Tactic

@[expose] public section

noncomputable section

namespace Cert.Gather.Trip

open Cert.Gather Cert.Gather.Gen Cert.Gather.Arith Cert.Gather.Step
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The kernel's variants: the naturals, the tiles still to go through. -/
abbrev 𝒱₀ : Variants := Variants.nat

section

variable (c : Dev nD) (bd : Option ℕ) (E : Set ℕ)
  (i : grid0.Coords) (arg1 : Memref sig .tc .smem S20480 .i32) (harg1 : arg1.IsWhole) (arg2 : Memref sig .tc .vmem S160x128 .i32) (harg2 : arg2.IsWhole)
  (arg4 : Memref sig .tc .vmem S48x20480 .i32) (harg4 : arg4.IsWhole) (arg3 : Memref sig .tc .vmem S192x8192 .i8) (harg3 : arg3.IsWhole)
  (arg6 : BitVec 32) (v12 v20 : BitVec 32) (h3 : k0_chk3 i v12 v20) (v32 v38 : IVec S48x128 32) (v39 c1 : BitVec 32)

/-- The loop's body: trip `t` from the tile `acc`. -/
def body (t : Fin (k0_t1_loop i v12 v20).trips) (arg8 : IVec S48x128 32) :
    Prog (TpuEff nD τ sig (Elt Bits) (Λ₀ Bits) .tc) (IVec S48x128 32) := do
  let ⟨arg7, v96, v98⟩ ← k0_part1 (F := Bits) i arg1 harg1 arg2 harg2 arg4 harg4 arg3 harg3 arg6 v12 v20 h3 v32 v38 v39 c1 t arg8
  let ⟨v134, v136, v142, v147⟩ ← k0_part2 (F := Bits) i arg1 harg1 arg2 harg2 arg4 harg4 arg3 harg3 arg6 v12 v20 h3 v32 v38 t arg7 v96 v98
  let ⟨v191, v193⟩ ← k0_part3 (F := Bits) i arg1 harg1 arg2 harg2 arg4 harg4 arg3 harg3 arg6 v12 v20 h3 v32 v38 t arg7 v134 v136 v142 v147
  let ⟨v229, v231, v237, v238⟩ ← k0_part4 (F := Bits) i arg1 harg1 arg2 harg2 arg4 harg4 arg3 harg3 arg6 v12 v20 h3 v32 v38 t arg7 v191 v193
  let ⟨v267, v283, v285⟩ ← k0_part5 (F := Bits) i arg1 harg1 arg2 harg2 arg4 harg4 arg3 harg3 arg6 v12 v20 h3 v32 v38 t arg7 v229 v231 v237 v238
  let ⟨v324, v326⟩ ← k0_part6 (F := Bits) i arg1 harg1 arg2 harg2 arg4 harg4 arg3 harg3 arg6 v12 v20 h3 v32 v38 t arg7 v267 v283 v285
  let v330 : Vec Bits S192x128 .i8 ← Prog.lift (.load arg3 (Rect.unit (s := S192x8192) (k0_off6 i v12 v20 t 14#32) S192x128.size (k0_off6_inb i v12 v20 h3 t 14)).toLoadRect (View.loadsAt_vmem h_S192x128))
  let v349 : Vec Bits S192x128 .i8 ← Prog.lift (.load arg3 (Rect.unit (s := S192x8192) (k0_off6 i v12 v20 t 15#32) S192x128.size (k0_off6_inb i v12 v20 h3 t 15)).toLoadRect (View.loadsAt_vmem h_S192x128))
  pure (k0_pay1 (F := Bits) v32 v38 arg7 v324 v326 v330 v349)

/-- The table block held, at contents `f3`. -/
def blk (f3 : Buf (Elt Bits) (arg3.view.loc (c : Thread nD τ))) : sProp 𝕄 :=
  arg3.view.loc (c : Thread nD τ) ↦[arg3.view.set]{fullShare} f3

/-- Column tile `u` of trip `t`'s group, as it is loaded. -/
def tile (f3 : Buf (Elt Bits) (arg3.view.loc (c : Thread nD τ))) (t : Fin (k0_t1_loop i v12 v20).trips) (u : Fin 16) : Vec Bits S192x128 .i8 :=
  arg3.view.readAt (Elt Bits) (Rect.unit (s := S192x8192) (k0_off6 i v12 v20 t (BitVec.ofNat 32 u.val)) S192x128.size (k0_off6_inb i v12 v20 h3 t u)).toLoadRect f3

theorem body_wp (f3 : Buf (Elt Bits) (arg3.view.loc (c : Thread nD τ))) (t : Fin (k0_t1_loop i v12 v20).trips) (acc : IVec S48x128 32)
    (K : IVec S48x128 32 → sProp 𝕄) (h39 : v39 = glo i v12) (hc1 : c1 = 1#32) :
    iprop(blk c arg3 f3 ∗ (blk c arg3 f3 -∗ K (picks v32 v38 (grp i v12 t) (tile c i arg3 v12 v20 h3 f3 t) acc 16 (Nat.le_refl _))))
      ⊢ wp frame (wpE (defs₀ (F := Bits)) 𝒱₀ (c : Thread nD τ) bd) E
          (body i arg1 harg1 arg2 harg2 arg4 harg4 arg3 harg3 arg6 v12 v20 h3 v32 v38 v39 c1 t acc) K := by
  subst h39 hc1
  unfold body blk
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret]
  iintro ⟨H, Hk⟩
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  iapply (wp_load 𝒱₀ (c : Thread nD τ) bd E (m := arg3) (View.setOn_subset_set _ _)) $$ H; iintro H
  rw [wp_ret]; imodintro
  show _ ⊢ K (picks v32 v38 (grp i v12 t) (tile c i arg3 v12 v20 h3 f3 t) acc 16 (Nat.le_refl _))
  iintro ⟨Hk, H⟩
  iapply Hk
  iexact H

end

end Cert.Gather.Trip

end
-- ==== Proof.GatherReads.lean ====
/-
  What the gather's loads and its one store of a tile read and write, index by index.
-/
module

public import proofs.«01_k».proof.Proof.GatherTile
public import proofs.«01_k».proof.Proof.GatherTrip

@[expose] public section

noncomputable section

namespace Cert.Gather.Reads

open Idealize.ShloMosaic Idealize.ShloMosaic.TcCoe Idealize.ShloMosaic.ValueIdx Cert.Gather Cert.Gather.Gen Cert.Gather.Arith Cert.Gather.Step Cert.Gather.Tile Cert.Gather.Trip

/-- A word of the prefetched indices. -/
theorem word_read (f : S20480.Idx → BitVec 32) (off : Fin 1 → Nat) (n : Nat) (hn : n < 20480) (h : off = ![n])
    (inb : ∀ a, off a + S1.size a ≤ S20480.size a) (x : S1.Idx) :
    (Memref.whole main_arg0 : Memref sig .tc .smem S20480 .i32).view.readAt (Elt Bits) (Rect.unit (s := S20480) off S1.size inb).toLoadRect f x
      = f (ix1 ⟨n, hn⟩) := by
  subst h
  show f ((Rect.unit (s := S20480) ![n] S1.size inb).emb x) = _
  congr 1
  funext a
  refine Fin.ext ?_
  match a with
  | ⟨0, _⟩ =>
    have hx : (x 0).val < 1 := (x 0).isLt
    show n + 1 * (x 0).val = n
    omega

/-- The row of the indices a tile works on. -/
theorem rows_read (f : S160x128.Idx → BitVec 32) (off : Fin 2 → Nat) (j : Nat) (hj : j < 160) (h : off = ![j, 0])
    (inb : ∀ a, off a + S1x128.size a ≤ S160x128.size a) (l : Fin 128) :
    (Memref.whole cc0_stg0_0 : Memref sig .tc .vmem S160x128 .i32).view.readAt (Elt Bits) (Rect.unit (s := S160x128) off S1x128.size inb).toLoadRect f (ix2 (0 : Fin 1) l)
      = f (ix2 (⟨j, hj⟩ : Fin 160) l) := by
  subst h
  show f ((Rect.unit (s := S160x128) ![j, 0] S1x128.size inb).emb (ix2 (0 : Fin 1) l)) = _
  congr 1
  funext a
  refine Fin.ext ?_
  match a with
  | ⟨0, _⟩ => show j + 1 * 0 = j; omega
  | ⟨1, _⟩ => show 0 + 1 * l.val = l.val; omega

theorem out_emb (off : Fin 2 → Nat) (j : Nat) (hj : j < 160) (h : off = ![0, 128 * j])
    (inb : ∀ a, off a + S48x128.size a ≤ S48x20480.size a) (kk : Fin 48) (l : Fin 128) :
    (Rect.unit (s := S48x20480) off S48x128.size inb).emb (ix2 kk l) = ix2 kk (⟨128 * j + l.val, by omega⟩ : Fin 20480) := by
  subst h
  funext a
  refine Fin.ext ?_
  match a with
  | ⟨0, _⟩ => show 0 + 1 * kk.val = kk.val; omega
  | ⟨1, _⟩ => show 128 * j + 1 * l.val = 128 * j + l.val; omega

/-- A tile of the result as it is loaded. -/
theorem out_read (f : S48x20480.Idx → BitVec 32) (off : Fin 2 → Nat) (j : Nat) (hj : j < 160) (h : off = ![0, 128 * j])
    (inb : ∀ a, off a + S48x128.size a ≤ S48x20480.size a) (kk : Fin 48) (l : Fin 128) :
    (Memref.whole cc0_stg2_0 : Memref sig .tc .vmem S48x20480 .i32).view.readAt (Elt Bits) (Rect.unit (s := S48x20480) off S48x128.size inb).toLoadRect f (ix2 kk l)
      = f (ix2 kk (⟨128 * j + l.val, by omega⟩ : Fin 20480)) :=
  congrArg f (out_emb off j hj h inb kk l)

/-- The result after a tile is stored: inside the tile what is stored, -/
theorem out_write_in (f : S48x20480.Idx → BitVec 32) (w : S48x128.Idx → BitVec 32) (off : Fin 2 → Nat) (j : Nat) (hj : j < 160)
    (h : off = ![0, 128 * j]) (inb : ∀ a, off a + S48x128.size a ≤ S48x20480.size a) (kk : Fin 48) (l : Fin 128) :
    ((Memref.whole cc0_stg2_0 : Memref sig .tc .vmem S48x20480 .i32).access (Rect.unit (s := S48x20480) off S48x128.size inb)).write (Elt Bits) f w Finset.univ
      (ix2 kk (⟨128 * j + l.val, by omega⟩ : Fin 20480)) = w (ix2 kk l) := by
  have h' := View.read_slice_write_emb (Val := Elt Bits) (v := (View.whole cc0_stg2_0 : View sig .tc _ _ _))
    (Rect.unit (s := S48x20480) off S48x128.size inb) f w (M := Finset.univ) (x := ix2 kk l) (Finset.mem_univ _)
  rw [out_emb off j hj h inb] at h'
  exact h'

/-- outside it what was there. -/
theorem out_write_out (f : S48x20480.Idx → BitVec 32) (w : S48x128.Idx → BitVec 32) (off : Fin 2 → Nat) (j : Nat)
    (h : off = ![0, 128 * j]) (inb : ∀ a, off a + S48x128.size a ≤ S48x20480.size a) (kk : Fin 48) (a : Fin 20480)
    (ha : a.val < 128 * j ∨ 128 * j + 128 ≤ a.val) :
    ((Memref.whole cc0_stg2_0 : Memref sig .tc .vmem S48x20480 .i32).access (Rect.unit (s := S48x20480) off S48x128.size inb)).write (Elt Bits) f w Finset.univ
      (ix2 kk a) = f (ix2 kk a) := by
  refine View.read_slice_write_of_not_mem (Val := Elt Bits) (v := (View.whole cc0_stg2_0 : View sig .tc _ _ _))
    (Rect.unit (s := S48x20480) off S48x128.size inb) f w Finset.univ ?_
  intro hm
  obtain ⟨x, -, hx⟩ := Finset.mem_map.1 hm
  have hx1 := congrArg Fin.val (congrFun hx (1 : Fin 2))
  subst h
  have hx2 : 128 * j + 1 * (x (1 : Fin 2)).val = a.val := hx1
  have hl : (x (1 : Fin 2)).val < 128 := (x (1 : Fin 2)).isLt
  omega

/-- A column tile of the block as a trip loads it. -/
theorem tile_read (c : Dev nD) (i : grid0.Coords) (arg3 : Memref sig .tc .vmem S192x8192 .i8) (v12 v20 : BitVec 32) (h3 : k0_chk3 i v12 v20)
    (f3 : Buf (Elt Bits) (arg3.view.loc (c : Thread nD τ))) (t : Fin (k0_t1_loop i v12 v20).trips) (u : Fin 16) (d : Fin 192) (l : Fin 128) :
    tile c i arg3 v12 v20 h3 f3 t u (ix2 d l)
      = arg3.view.read (Elt Bits) f3 (ix2 d (col (grp i v12 t) (grp_lt i v12 v20 t.isLt).1 u l)) := by
  show arg3.view.read (Elt Bits) f3 ((Rect.unit (s := S192x8192) (k0_off6 i v12 v20 t (BitVec.ofNat 32 u.val)) S192x128.size (k0_off6_inb i v12 v20 h3 t u)).emb (ix2 d l)) = _
  congr 1
  have e := off6_eq i v12 v20 t u.val u.isLt
  funext a
  refine Fin.ext ?_
  match a with
  | ⟨0, _⟩ =>
    show k0_off6 i v12 v20 t (BitVec.ofNat 32 u.val) 0 + 1 * d.val = d.val
    rw [e]
    show 0 + 1 * d.val = d.val
    omega
  | ⟨1, _⟩ =>
    show k0_off6 i v12 v20 t (BitVec.ofNat 32 u.val) 1 + 1 * l.val = 128 * (16 * (grp i v12 t).toNat + u.val) + l.val
    rw [e]
    show 128 * (16 * (grp i v12 t).toNat + u.val) + 1 * l.val = _
    omega

end Cert.Gather.Reads

end
-- ==== Proof.GatherLabel.lean ====
/-
  The gather's while: one tile of indices after the other, until the first whose first row lies after the chunk. The loop
  is entered with what `Tile.Entry` says of the result and left with what `Tile.Exit` says; each trip goes one tile further or
  marks the chunk done, so `160 - j` tiles, counted down to zero, bound it.
-/
module

public import proofs.«01_k».proof.Proof.GatherReads

@[expose] public section

noncomputable section

namespace Cert.Gather.Label

open Cert.Gather Cert.Gather.Gen Cert.Gather.Arith Cert.Gather.Step Cert.Gather.Tile Cert.Gather.Trip Cert.Gather.Reads
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-! ## The label's program, cut where the loops begin -/

section Prog

variable (i : grid0.Coords) (arg1 : Memref sig .tc .smem S20480 .i32) (harg1 : arg1.IsWhole) (arg2 : Memref sig .tc .vmem S160x128 .i32) (harg2 : arg2.IsWhole)
  (arg4 : Memref sig .tc .vmem S48x20480 .i32) (harg4 : arg4.IsWhole) (arg3 : Memref sig .tc .vmem S192x8192 .i8) (harg3 : arg3.IsWhole)
  (arg6 : BitVec 32)

/-- The body of the second loop, which has no trip. -/
def body2 (v12 v20 : BitVec 32) (h3 : k0_chk3 i v12 v20) (v32 v38 : IVec S48x128 32) (v49 c1 : BitVec 32)
    (t : Fin (k0_t2_loop i v12 v20).trips) (arg8 : IVec S48x128 32) :
    Prog (TpuEff nD τ sig (Elt Bits) (Λ₀ Bits) .tc) (IVec S48x128 32) := do
  let ⟨arg7, v96, v98⟩ ← k0_part7 (F := Bits) i arg1 harg1 arg2 harg2 arg4 harg4 arg3 harg3 arg6 v12 v20 h3 v32 v38 v49 c1 t arg8
  let ⟨v134, v136, v142, v147⟩ ← k0_part8 (F := Bits) i arg1 harg1 arg2 harg2 arg4 harg4 arg3 harg3 arg6 v12 v20 h3 v32 v38 t arg7 v96 v98
  let ⟨v191, v193⟩ ← k0_part9 (F := Bits) i arg1 harg1 arg2 harg2 arg4 harg4 arg3 harg3 arg6 v12 v20 h3 v32 v38 t arg7 v134 v136 v142 v147
  let ⟨v229, v231, v237, v238⟩ ← k0_part10 (F := Bits) i arg1 harg1 arg2 harg2 arg4 harg4 arg3 harg3 arg6 v12 v20 h3 v32 v38 t arg7 v191 v193
  let ⟨v267, v283, v285⟩ ← k0_part11 (F := Bits) i arg1 harg1 arg2 harg2 arg4 harg4 arg3 harg3 arg6 v12 v20 h3 v32 v38 t arg7 v229 v231 v237 v238
  let ⟨v324, v326⟩ ← k0_part12 (F := Bits) i arg1 harg1 arg2 harg2 arg4 harg4 arg3 harg3 arg6 v12 v20 h3 v32 v38 t arg7 v267 v283 v285
  let v330 : Vec Bits S192x128 .i8 ← Prog.lift (.load arg3 (Rect.unit (s := S192x8192) (k0_off7 i v12 v20 t 14#32) S192x128.size (k0_off7_inb i v12 v20 h3 t 14)).toLoadRect (View.loadsAt_vmem h_S192x128))
  let v349 : Vec Bits S192x128 .i8 ← Prog.lift (.load arg3 (Rect.unit (s := S192x8192) (k0_off7 i v12 v20 t 15#32) S192x128.size (k0_off7_inb i v12 v20 h3 t 15)).toLoadRect (View.loadsAt_vmem h_S192x128))
  pure (k0_pay2 (F := Bits) v32 v38 arg7 v324 v326 v330 v349)

/-- After the loops: the tile stored, and the label called for the next. -/
def tail (h2 : k0_chk2 arg6) (v21 : BitVec 32) (v51 : IVec S48x128 32) :
    Prog (TpuEff nD τ sig (Elt Bits) (Λ₀ Bits) .tc) (BitVec 32) := do
  let v53 : Vec Bits S48x128 .i32 ← Prog.lift (.load arg4 (Rect.unit (s := S48x20480) (k0_off8 arg6) S48x128.size (k0_off8_inb arg6 h2)).toLoadRect (View.loadsAt_vmem h_S48x128))
  Prog.lift (.store arg4 (Rect.unit (s := S48x20480) (k0_off8 arg6) S48x128.size (k0_off8_inb arg6 h2)) v51 Finset.univ (View.stores_vmem_bits_univ h_S48x128 rfl) (.inl rfl))
  Prog.lift (.call (1 : (Λ₀ Bits).Label) ⟨i, arg1, harg1, arg2, harg2, arg4, harg4, arg3, harg3,
    Scalar.select (Scalar.cmpi .slt v21 (Scalar.addi (base i) 64#32)) (Scalar.addi arg6 1#32) (Scalar.addi arg6 320#32)⟩)

/-- From the first loop on. -/
def loops (h2 : k0_chk2 arg6) (v12 v20 : BitVec 32) (h3 : k0_chk3 i v12 v20) (v21 : BitVec 32) (v32 v38 : IVec S48x128 32) (v39 : BitVec 32)
    (v44 : IVec S48x128 32) (v49 c1 : BitVec 32) : Prog (TpuEff nD τ sig (Elt Bits) (Λ₀ Bits) .tc) (BitVec 32) := do
  let v50 : IVec S48x128 32 ← Scf.Loop.for (k0_t1_loop i v12 v20) (k0_t1_ok i v12 v20 h3) v44
    (body i arg1 harg1 arg2 harg2 arg4 harg4 arg3 harg3 arg6 v12 v20 h3 v32 v38 v39 c1)
  let v51 : IVec S48x128 32 ← Scf.Loop.for (k0_t2_loop i v12 v20) (k0_t2_ok i v12 v20 h3) v50
    (body2 i arg1 harg1 arg2 harg2 arg4 harg4 arg3 harg3 arg6 v12 v20 h3 v32 v38 v49 1#32)
  tail i arg1 harg1 arg2 harg2 arg4 harg4 arg3 harg3 arg6 h2 v21 v51

/-- The label. -/
def prog : Prog (TpuEff nD τ sig (Elt Bits) (Λ₀ Bits) .tc) (BitVec 32) := do
  have h1 : k0_chk1 arg6 := (← Prog.lift (TpuEff.assume (k0_chk1 arg6) (k0_chk1.dec arg6))).down
  let v14 : Elt Bits .i32 ← smemLoad arg1 (Rect.unit (s := S20480) (k0_off1 arg6) S1.size (k0_off1_inb arg6 h1)) numel1_S1 rfl
  if Scalar.andi (Scalar.cmpi .slt arg6 160#32) (Scalar.cmpi .slt (Scalar.shrsi v14 7#32) (Scalar.addi (base i) 64#32)) = 1#1 then do
    let ⟨h2, v12, v20, h3, v21, _, v32, v38, v39, v44, v49, c1⟩ ← k0_part13 (F := Bits) i arg1 harg1 arg2 harg2 arg4 harg4 arg3 harg3 arg6 (base i)
    loops i arg1 harg1 arg2 harg2 arg4 harg4 arg3 harg3 arg6 h2 v12 v20 h3 v21 v32 v38 v39 v44 v49 c1
  else pure arg6

theorem prog_eq : cc0_while1 (F := Bits) i arg1 harg1 arg2 harg2 arg4 harg4 arg3 harg3 arg6
    = prog i arg1 harg1 arg2 harg2 arg4 harg4 arg3 harg3 arg6 := by
  rw [cc0_while1_eq_skeleton]
  rfl

end Prog

/-! ## The label, run -/

section Run

variable (c : Dev nD) (q1 : PosShare TreeShare) (i : grid0.Coords)
  (arg3 : Memref sig .tc .vmem S192x8192 .i8) (harg3 : arg3.IsWhole)
  (rows : Fin 20480 → BitVec 32) (tb : Nat → Fin 192 → BitVec 8)
  (f1 : S20480.Idx → BitVec 32) (hf1 : ∀ a : Fin 20480, f1 (ix1 a) = rows a)
  (f2 : S160x128.Idx → BitVec 32) (hf2 : ∀ (j : Fin 160) (l : Fin 128), f2 (ix2 j l) = rows (lane j l))
  (f3 : Buf (Elt Bits) (arg3.view.loc (c : Thread nD τ)))
  (hf3 : ∀ (cc : Fin 8192) (d : Fin 192), 8192 * (i 0).val + cc.val < 1700000 →
    arg3.view.read (Elt Bits) f3 (ix2 d cc) = tb (8192 * (i 0).val + cc.val) d)

/-- What the label works on: the indices in scalar and in vector memory, the table block, and the result, at `fo`. -/
def held (fo : S48x20480.Idx → BitVec 32) : sProp 𝕄 :=
  iprop((((c : Thread nD τ).loc main_arg0) ↦{q1} (f1 : Buf (Elt Bits) ((c : Thread nD τ).loc main_arg0)))
    ∗ (((c : Thread nD τ).loc cc0_stg0_0) ↦{fullShare} (f2 : Buf (Elt Bits) ((c : Thread nD τ).loc cc0_stg0_0)))
    ∗ blk c arg3 f3
    ∗ (((c : Thread nD τ).loc cc0_stg2_0) ↦{fullShare} (fo : Buf (Elt Bits) ((c : Thread nD τ).loc cc0_stg2_0))))

/-- The label's specification, entered with the result at `fo`: it returns a counter and leaves the result at contents
    of which `Exit` holds, everything else as it was. -/
def spec (fo : S48x20480.Idx → BitVec 32) : sWPT 𝕄 (BitVec 32) := do
  sWPT.consume (held c q1 arg3 f1 f2 f3 fo)
  let r : BitVec 32 × (S48x20480.Idx → BitVec 32) ← sWPT.arbitrary
  sWPT.assume (Exit rows tb (i 0).val r.1 r.2)
  sWPT.produce (held c q1 arg3 f1 f2 f3 r.2)
  pure r.1

theorem spec_apply (fo : S48x20480.Idx → BitVec 32) (K : BitVec 32 → sProp 𝕄) :
    spec c q1 i arg3 rows tb f1 f2 f3 fo K
      = iprop(held c q1 arg3 f1 f2 f3 fo ∗ ∀ r : BitVec 32 × (S48x20480.Idx → BitVec 32), ⌜Exit rows tb (i 0).val r.1 r.2⌝
          -∗ (held c q1 arg3 f1 f2 f3 r.2 -∗ K r.1)) := rfl

/-- The label at counter `v`, as it is called. -/
abbrev lab (v : BitVec 32) : Prog (TpuEff nD τ sig (Elt Bits) (Λ₀ Bits) .tc) (BitVec 32) :=
  defs₀ (F := Bits) .tc 1 ⟨i, Memref.whole main_arg0, Memref.isWhole_whole _, Memref.whole cc0_stg0_0, Memref.isWhole_whole _,
    Memref.whole cc0_stg2_0, Memref.isWhole_whole _, arg3, harg3, v⟩

theorem lt_bit (x y : BitVec 32) : Scalar.cmpi .slt x y = 1#1 ↔ x.toInt < y.toInt := by
  show BitVec.ofBool (x.slt y) = 1#1 ↔ _
  have : x.slt y = decide (x.toInt < y.toInt) := rfl
  rw [this]
  by_cases h : x.toInt < y.toInt <;> simp [h]

theorem end_toInt : (Scalar.addi (base i) 64#32).toInt = 64 * ((i 0).val : Int) + 64 := by
  have h : (i 0).val < 208 := (i 0).isLt
  have hb := base_toInt i
  have h64 : (64#32).toInt = 64 := by decide
  show (base i + 64#32).toInt = _
  rw [toInt_add_eq _ _ (by omega) (by omega), hb, h64]

theorem shr7_toInt (v : BitVec 32) : (Scalar.shrsi v 7#32).toInt = v.toInt / 128 := toInt_shr v 7 (by decide)

theorem next_word (j : Nat) (b : BitVec 1) : Scalar.select b (Scalar.addi (wd j) 1#32) (Scalar.addi (wd j) 320#32)
    = if b = 1#1 then wd (j + 1) else wd (j + 320) := by
  have e1 : Scalar.addi (wd j) 1#32 = wd (j + 1) := (BitVec.ofNat_add j 1).symm
  have e2 : Scalar.addi (wd j) 320#32 = wd (j + 320) := (BitVec.ofNat_add j 320).symm
  rw [e1, e2]
  rfl

/-- The tile stored and the label called again: by what is assumed of the label at later tiles. -/
theorem tail_wp (E : Set ℕ) (j : Nat) (fo : S48x20480.Idx → BitVec 32) (h2 : k0_chk2 (wd j)) (v20 : BitVec 32) (acc : IVec S48x128 32)
    (K : BitVec 32 → sProp 𝕄) (fo' : S48x20480.Idx → BitVec 32)
    (hfo' : fo' = ((Memref.whole cc0_stg2_0 : Memref sig .tc .vmem S48x20480 .i32).access (Rect.unit (s := S48x20480) (k0_off8 (wd j)) S48x128.size (k0_off8_inb (wd j) h2))).write (Elt Bits) fo acc Finset.univ)
    (hj : j < 160)
    (h1 : v20.toInt / 128 < 64 * ((i 0).val : Int) + 64 → Entry rows tb (i 0).val (j + 1) fo')
    (h320 : ¬ (v20.toInt / 128 < 64 * ((i 0).val : Int) + 64) → Entry rows tb (i 0).val (j + 320) fo')
    (ih : ∀ j' fo, 160 - j' < 160 - j → Entry rows tb (i 0).val j' fo → ∀ K, spec c q1 i arg3 rows tb f1 f2 f3 fo K
      ⊢ wp frame (wpE (defs₀ (F := Bits)) 𝒱₀ (c : Thread nD τ) (some (160 - j'))) E (lab i arg3 harg3 (wd j')) K) :
    iprop(held c q1 arg3 f1 f2 f3 fo ∗ ∀ r : BitVec 32 × (S48x20480.Idx → BitVec 32), ⌜Exit rows tb (i 0).val r.1 r.2⌝
          -∗ (held c q1 arg3 f1 f2 f3 r.2 -∗ K r.1))
      ⊢ wp frame (wpE (defs₀ (F := Bits)) 𝒱₀ (c : Thread nD τ) (some (160 - j))) E
          (tail i (Memref.whole main_arg0) (Memref.isWhole_whole _) (Memref.whole cc0_stg0_0) (Memref.isWhole_whole _)
            (Memref.whole cc0_stg2_0) (Memref.isWhole_whole _) arg3 harg3 (wd j) h2 (Scalar.shrsi v20 7#32) acc) K := by
  unfold tail
  rw [next_word]
  have hc := lt_bit (Scalar.shrsi v20 7#32) (Scalar.addi (base i) 64#32)
  rw [shr7_toInt, end_toInt] at hc
  simp only [Prog.lift, Prog.bind_op, Prog.bind_ret]
  unfold held
  iintro ⟨⟨Ha, Hb, Hc, Ho⟩, Hk⟩
  iapply (wp_load 𝒱₀ (c : Thread nD τ) (some (160 - j)) E (m := Memref.whole cc0_stg2_0) (Finset.subset_univ _)) $$ Ho; iintro Ho
  iapply (wp_store 𝒱₀ (c : Thread nD τ) (some (160 - j)) E (m := Memref.whole cc0_stg2_0)
    (r := Rect.unit (s := S48x20480) (k0_off8 (wd j)) S48x128.size (k0_off8_inb (wd j) h2)) (Mk := Finset.univ) (Finset.subset_univ _)) $$ Ho; iintro Ho
  rw [← hfo']
  by_cases hb : Scalar.cmpi .slt (Scalar.shrsi v20 7#32) (Scalar.addi (base i) 64#32) = 1#1
  · rw [if_pos hb]
    iapply (wp_call_spec 𝒱₀ (c : Thread nD τ) (some (160 - j)) E (spec c q1 i arg3 rows tb f1 f2 f3 fo') (160 - (j + 1))
      (fun u hu => by cases hu; exact (by omega : 160 - (j + 1) < 160 - j)) (ih (j + 1) fo' (by omega) (h1 (hc.1 hb))))
    rw [spec_apply]; unfold held
    isplitl [Ha Hb Hc Ho]
    · isplitl [Ha]; · iexact Ha
      isplitl [Hb]; · iexact Hb
      isplitl [Hc]; · iexact Hc
      iexact Ho
    iintro %r %hr H
    rw [wp_ret]; imodintro
    iapply Hk
    · ipureintro; exact hr
    · iexact H
  · rw [if_neg hb]
    iapply (wp_call_spec 𝒱₀ (c : Thread nD τ) (some (160 - j)) E (spec c q1 i arg3 rows tb f1 f2 f3 fo') (160 - (j + 320))
      (fun u hu => by cases hu; exact (by omega : 160 - (j + 320) < 160 - j)) (ih (j + 320) fo' (by omega) (h320 (fun h => hb (hc.2 h)))))
    rw [spec_apply]; unfold held
    isplitl [Ha Hb Hc Ho]
    · isplitl [Ha]; · iexact Ha
      isplitl [Hb]; · iexact Hb
      isplitl [Hc]; · iexact Hc
      iexact Ho
    iintro %r %hr H
    rw [wp_ret]; imodintro
    iapply Hk
    · ipureintro; exact hr
    · iexact H

/-- One trip keeps what the groups before it have done. -/
theorem trip_wp (E : Set ℕ) (bd : Option ℕ) (v6 v12 v20 : BitVec 32) (h3 : k0_chk3 i v12 v20) (v32 v38 init : IVec S48x128 32)
    (k : Fin (k0_t1_loop i v12 v20).trips) (acc : IVec S48x128 32) :
    iprop(⌜Groups i v12 (arg3.view.read (Elt Bits) f3) v32 v38 init k.val acc⌝ ∗ (blk c arg3 f3 : sProp 𝕄))
      ⊢ wp frame (wpE (defs₀ (F := Bits)) 𝒱₀ (c : Thread nD τ) bd) E
          (body i (Memref.whole main_arg0) (Memref.isWhole_whole _) (Memref.whole cc0_stg0_0) (Memref.isWhole_whole _)
            (Memref.whole cc0_stg2_0) (Memref.isWhole_whole _) arg3 harg3 v6 v12 v20 h3 v32 v38 (glo i v12) 1#32 k acc)
          (fun acc' => iprop(⌜Groups i v12 (arg3.view.read (Elt Bits) f3) v32 v38 init (k.val + 1) acc'⌝ ∗ blk c arg3 f3)) := by
  iintro ⟨%hG, H⟩
  iapply (body_wp c bd E i _ _ _ _ _ _ arg3 harg3 v6 v12 v20 h3 v32 v38 (glo i v12) 1#32 f3 k acc _ rfl rfl)
  isplitl [H]; · iexact H
  iintro H
  isplitr
  · ipureintro
    exact groups_succ i v12 v20 _ v32 v38 init acc k.val k.isLt _ (fun u d l => tile_read c i arg3 v12 v20 h3 f3 k u d l) hG
  · iexact H

include hf3 in
/-- Both loops, the store and the next call. -/
theorem loops_wp (E : Set ℕ) (j : Nat) (hj : j < 160) (fo : S48x20480.Idx → BitVec 32) (hE : Entry rows tb (i 0).val j fo)
    (h2 : k0_chk2 (wd j)) (v12 v20 : BitVec 32) (h3 : k0_chk3 i v12 v20)
    (h12 : v12 = rows ⟨128 * j, by omega⟩) (h20 : v20 = rows ⟨128 * j + 127, by omega⟩)
    (v27 : Vec Bits S1x128 .i32) (hv : ∀ l : Fin 128, v27 (ix2 (0 : Fin 1) l) = rows ⟨128 * j + l.val, by omega⟩)
    (init : IVec S48x128 32) (hinit : ∀ (kk : Fin 48) (l : Fin 128), init (ix2 kk l) = fo (ix2 kk ⟨128 * j + l.val, by omega⟩))
    (v49 : BitVec 32) (K : BitVec 32 → sProp 𝕄)
    (ih : ∀ j' fo, 160 - j' < 160 - j → Entry rows tb (i 0).val j' fo → ∀ K, spec c q1 i arg3 rows tb f1 f2 f3 fo K
      ⊢ wp frame (wpE (defs₀ (F := Bits)) 𝒱₀ (c : Thread nD τ) (some (160 - j'))) E (lab i arg3 harg3 (wd j')) K) :
    iprop(held c q1 arg3 f1 f2 f3 fo ∗ ∀ r : BitVec 32 × (S48x20480.Idx → BitVec 32), ⌜Exit rows tb (i 0).val r.1 r.2⌝
          -∗ (held c q1 arg3 f1 f2 f3 r.2 -∗ K r.1))
      ⊢ wp frame (wpE (defs₀ (F := Bits)) 𝒱₀ (c : Thread nD τ) (some (160 - j))) E
          (loops i (Memref.whole main_arg0) (Memref.isWhole_whole _) (Memref.whole cc0_stg0_0) (Memref.isWhole_whole _)
            (Memref.whole cc0_stg2_0) (Memref.isWhole_whole _) arg3 harg3 (wd j) h2 v12 v20 h3 (Scalar.shrsi v20 7#32)
            (k0_pay28 (F := Bits) v27) (k0_pay29 (F := Bits) (base i) v27) (glo i v12) init v49 1#32) K := by
  unfold loops
  rw [show held c q1 arg3 f1 f2 f3 fo = iprop((((c : Thread nD τ).loc main_arg0) ↦{q1} (f1 : Buf (Elt Bits) ((c : Thread nD τ).loc main_arg0)))
    ∗ (((c : Thread nD τ).loc cc0_stg0_0) ↦{fullShare} (f2 : Buf (Elt Bits) ((c : Thread nD τ).loc cc0_stg0_0)))
    ∗ blk c arg3 f3
    ∗ (((c : Thread nD τ).loc cc0_stg2_0) ↦{fullShare} (fo : Buf (Elt Bits) ((c : Thread nD τ).loc cc0_stg2_0)))) from rfl]
  iintro ⟨⟨Ha, Hb, Hc, Ho⟩, Hk⟩
  iapply (Scf.wp_for_bind frame (wpE (defs₀ (F := Bits)) 𝒱₀ (c : Thread nD τ) (some (160 - j))) E (k0_t1_loop i v12 v20).lb (k0_t1_loop i v12 v20).ub
    (k0_t1_loop i v12 v20).st _ _ _
    (fun k acc => iprop(⌜Groups i v12 (arg3.view.read (Elt Bits) f3) (k0_pay28 (F := Bits) v27) (k0_pay29 (F := Bits) (base i) v27) init k acc⌝ ∗ blk c arg3 f3))
    (trip_wp c i arg3 harg3 f3 E (some (160 - j)) (wd j) v12 v20 h3 _ _ init)) $$ [Hc]
  · isplitr
    · ipureintro; exact groups_zero i v12 _ _ _ init
    · iexact Hc
  iintro %acc ⟨%hG, Hc⟩
  iapply (Scf.wp_for_bind frame (wpE (defs₀ (F := Bits)) 𝒱₀ (c : Thread nD τ) (some (160 - j))) E (k0_t2_loop i v12 v20).lb (k0_t2_loop i v12 v20).ub
    (k0_t2_loop i v12 v20).st _ acc _
    (fun _ acc' => iprop(⌜acc' = acc⌝ ∗ blk c arg3 f3))
    (fun k _ => absurd k.isLt (by have := loop2_trips i v12 v20; intro h; exact absurd (Nat.lt_of_lt_of_eq h this) (Nat.not_lt_zero _)))) $$ [Hc]
  · isplitr
    · ipureintro; rfl
    · iexact Hc
  iintro %acc' ⟨%he, Hc⟩
  subst he
  have hs := entry_step rows tb i j hj (arg3.view.read (Elt Bits) f3) hf3 v12 v20 h12 h20 v27 hv fo _ init acc' hinit
    (fun kk l => out_write_in fo acc' _ j hj (off8_eq hj) (k0_off8_inb (wd j) h2) kk l)
    (fun kk a ha => out_write_out fo acc' _ j (off8_eq hj) (k0_off8_inb (wd j) h2) kk a ha) _ rfl hG hE
  iapply (tail_wp c q1 i arg3 harg3 rows tb f1 f2 f3 E j fo h2 v20 acc' K _ rfl hj hs.1 hs.2 ih)
  unfold held
  isplitl [Ha Hb Hc Ho]
  · isplitl [Ha]; · iexact Ha
    isplitl [Hb]; · iexact Hb
    isplitl [Hc]; · iexact Hc
    iexact Ho
  iexact Hk

include hf1 hf2 hf3 in
/-- The label meets its specification, at every tile. -/
theorem spec_le (E : Set ℕ) : ∀ (n j : Nat), 160 - j = n → ∀ (fo : S48x20480.Idx → BitVec 32), Entry rows tb (i 0).val j fo →
    ∀ K, spec c q1 i arg3 rows tb f1 f2 f3 fo K
      ⊢ wp frame (wpE (defs₀ (F := Bits)) 𝒱₀ (c : Thread nD τ) (some (160 - j))) E (lab i arg3 harg3 (wd j)) K := by
  intro n
  induction n using Nat.strongRecOn with
  | _ n IH =>
  intro j hn fo hE K
  have hj480 : j < 480 := by rcases hE with h | h <;> omega
  rw [spec_apply]
  show _ ⊢ wp frame (wpE (defs₀ (F := Bits)) 𝒱₀ (c : Thread nD τ) (some (160 - j))) E
    (cc0_while1 (F := Bits) i (Memref.whole main_arg0) (Memref.isWhole_whole _) (Memref.whole cc0_stg0_0) (Memref.isWhole_whole _)
      (Memref.whole cc0_stg2_0) (Memref.isWhole_whole _) arg3 harg3 (wd j)) K
  rw [prog_eq]
  unfold prog
  simp only [smemLoad, smemLoadElt, Prog.lift, Prog.bind_op, Prog.bind_ret, Prog.pure_eq_ret]
  rw [show held c q1 arg3 f1 f2 f3 fo = iprop((((c : Thread nD τ).loc main_arg0) ↦{q1} (f1 : Buf (Elt Bits) ((c : Thread nD τ).loc main_arg0)))
    ∗ (((c : Thread nD τ).loc cc0_stg0_0) ↦{fullShare} (f2 : Buf (Elt Bits) ((c : Thread nD τ).loc cc0_stg0_0)))
    ∗ blk c arg3 f3
    ∗ (((c : Thread nD τ).loc cc0_stg2_0) ↦{fullShare} (fo : Buf (Elt Bits) ((c : Thread nD τ).loc cc0_stg2_0)))) from rfl]
  iintro ⟨⟨Ha, Hb, Hc, Ho⟩, Hk⟩
  iapply (wp_assume 𝒱₀ (c : Thread nD τ) (some (160 - j)) E (chk1 (by omega : j < 500)))
  iapply (wp_load 𝒱₀ (c : Thread nD τ) (some (160 - j)) E (m := Memref.whole main_arg0) (Finset.subset_univ _)) $$ Ha; iintro Ha
  rw [word_read f1 _ (128 * min j 159) (by omega) (off1_eq (by omega : j < 500)), hf1]
  have hbit1 := lt_bit (wd j) 160#32
  have h160 : (160#32).toInt = 160 := by decide
  rw [wd_toInt (by omega : j < 500), h160] at hbit1
  have hbit2 := lt_bit (Scalar.shrsi (rows ⟨128 * min j 159, by omega⟩) 7#32) (Scalar.addi (base i) 64#32)
  rw [shr7_toInt, end_toInt] at hbit2
  have hand : ∀ a b : BitVec 1, Scalar.andi a b = 1#1 ↔ a = 1#1 ∧ b = 1#1 := by decide
  by_cases ht : Scalar.andi (Scalar.cmpi .slt (wd j) 160#32) (Scalar.cmpi .slt (Scalar.shrsi (rows ⟨128 * min j 159, by omega⟩) 7#32) (Scalar.addi (base i) 64#32)) = 1#1
  · rw [if_pos ht]
    have hj : j < 160 := by have := hbit1.1 ((hand _ _).1 ht).1; omega
    simp only [k0_part13_eq_skeleton]
    unfold k0_part13_skel
    simp only [smemLoad, smemLoadElt, Prog.lift, Prog.bind_op, Prog.bind_ret, Prog.pure_eq_ret]
    iapply (wp_assume 𝒱₀ (c : Thread nD τ) (some (160 - j)) E (chk2 hj))
    iapply (wp_load 𝒱₀ (c : Thread nD τ) (some (160 - j)) E (m := Memref.whole main_arg0) (Finset.subset_univ _)) $$ Ha; iintro Ha
    iapply (wp_load 𝒱₀ (c : Thread nD τ) (some (160 - j)) E (m := Memref.whole main_arg0) (Finset.subset_univ _)) $$ Ha; iintro Ha
    iapply (wp_assume 𝒱₀ (c : Thread nD τ) (some (160 - j)) E (chk3 i _ _))
    iapply (wp_load 𝒱₀ (c : Thread nD τ) (some (160 - j)) E (m := Memref.whole cc0_stg0_0) (Finset.subset_univ _)) $$ Hb; iintro Hb
    iapply (wp_load 𝒱₀ (c : Thread nD τ) (some (160 - j)) E (m := Memref.whole cc0_stg2_0) (Finset.subset_univ _)) $$ Ho; iintro Ho
    iapply (loops_wp c q1 i arg3 harg3 rows tb f1 f2 f3 hf3 E j hj fo hE (chk2 hj) _ _ (chk3 i _ _)
      ((word_read f1 _ (128 * j) (by omega) (off2_eq hj) _ _).trans (hf1 _))
      ((word_read f1 _ (128 * j + 127) (by omega) (off3_eq hj) _ _).trans (hf1 _))
      _ (fun l => (rows_read f2 _ j hj (off4_eq hj) _ l).trans (hf2 ⟨j, hj⟩ l))
      _ (fun kk l => (congrFun (shapeCast_self _ _) _).trans (out_read fo _ j hj (off5_eq hj) _ kk l)) _ K
      (fun j' fo' hlt hE' => IH (160 - j') (by omega) j' rfl fo' hE'))
    unfold held
    isplitl [Ha Hb Hc Ho]
    · isplitl [Ha]; · iexact Ha
      isplitl [Hb]; · iexact Hb
      isplitl [Hc]; · iexact Hc
      iexact Ho
    iexact Hk
  · rw [if_neg ht, wp_ret]; imodintro
    have hx : Exit rows tb (i 0).val (wd j) fo := exit_of rows tb (i 0).val j fo hE (fun hj hlt => ht ((hand _ _).2 ⟨hbit1.2 (by omega), hbit2.2 (by
      have e : (⟨128 * min j 159, by omega⟩ : Fin 20480) = ⟨128 * j, by omega⟩ := Fin.ext (by show 128 * min j 159 = 128 * j; omega)
      rw [e]; exact hlt)⟩))
    iapply Hk $$ %((wd j, fo) : BitVec 32 × (S48x20480.Idx → BitVec 32))
    · ipureintro; exact hx
    · unfold held
      isplitl [Ha]; · iexact Ha
      isplitl [Hb]; · iexact Hb
      isplitl [Hc]; · iexact Hc
      iexact Ho

end Run

end Cert.Gather.Label

end
-- ==== Proof.GatherBody.lean ====
/-
  The gather's body at one chunk: the tile the chunk begins at is read from the scratch word, the while is called, and the
  tile the next chunk begins at is left there.
-/
module

public import proofs.«01_k».proof.Proof.GatherLabel

@[expose] public section

noncomputable section

namespace Cert.Gather.Body

open Cert.Gather Cert.Gather.Gen Cert.Gather.Arith Cert.Gather.Step Cert.Gather.Tile Cert.Gather.Trip Cert.Gather.Reads Cert.Gather.Label
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-! ## The scratch word -/

theorem one_idx (x : S1.Idx) : x = ix1 (0 : Fin 1) := by
  funext a
  refine Fin.ext ?_
  match a with
  | ⟨0, _⟩ =>
    have hx : (x 0).val < 1 := (x 0).isLt
    show (x 0).val = 0
    omega

theorem scr_read (f : S1.Idx → BitVec 32) (inb : ∀ a, (![0] : Fin 1 → Nat) a + S1.size a ≤ S1.size a) (x : S1.Idx) :
    (Memref.whole cc0_scratch0 : Memref sig .tc .smem S1 .i32).view.readAt (Elt Bits) (Rect.unit (s := S1) ![0] S1.size inb).toLoadRect f x
      = f (ix1 (0 : Fin 1)) :=
  congrArg f (one_idx _)

theorem scr_write (f : S1.Idx → BitVec 32) (v : BitVec 32) (inb : ∀ a, (![0] : Fin 1 → Nat) a + S1.size a ≤ S1.size a) :
    ((Memref.whole cc0_scratch0 : Memref sig .tc .smem S1 .i32).access (Rect.unit (s := S1) ![0] S1.size inb)).write (Elt Bits) f (fun _ => v) Finset.univ
      = (fun _ => v : S1.Idx → BitVec 32) := by
  have h' := View.read_slice_write_emb (Val := Elt Bits) (v := (View.whole cc0_scratch0 : View sig .tc _ _ _))
    (Rect.unit (s := S1) ![0] S1.size inb) f (fun _ => v) (M := Finset.univ) (x := ix1 (0 : Fin 1)) (Finset.mem_univ _)
  funext x
  rw [show x = (Rect.unit (s := S1) ![0] S1.size inb).emb (ix1 (0 : Fin 1)) from (one_idx _).trans (one_idx _).symm]
  exact h'

/-! ## The body -/

section Run

variable (c : Dev nD) (q1 : PosShare TreeShare) (i : grid0.Coords)
  (arg3 : Memref sig .tc .vmem S192x8192 .i8) (harg3 : arg3.IsWhole)
  (rows : Fin 20480 → BitVec 32) (tb : Nat → Fin 192 → BitVec 8)

/-- What the scratch word says before chunk `t`, the result at `fo`: nothing before the first; after a chunk, the tile the next
    begins at, and that the chunk is done. -/
def Carry (t : Nat) (fs : S1.Idx → BitVec 32) (fo : S48x20480.Idx → BitVec 32) : Prop :=
  t = 0 ∨ ∃ j, j ≤ 160 ∧ fs (ix1 (0 : Fin 1)) = wd j ∧ (Sorted rows → Done rows tb (t - 1) fo ∧ Used rows (t - 1) j)

/-- The chunk left at counter `r`: the tile the next chunk begins at, as the body computes it. -/
theorem carry_of (t : Nat) (r : BitVec 32) (fo : S48x20480.Idx → BitVec 32) (h : Exit rows tb t r fo) :
    ∃ j, j ≤ 160 ∧ Scalar.select (Scalar.cmpi .sge r 320#32) (Scalar.subi r 320#32) r = wd j
      ∧ (Sorted rows → Done rows tb t fo ∧ Used rows t j) := by
  obtain ⟨j, rfl, hj, h⟩ := h
  refine ⟨next j, ?_, ?_, h⟩
  · unfold next
    split <;> omega
  · have h320 : (320#32).toInt = 320 := by decide
    have hb : Scalar.cmpi .sge (wd j) 320#32 = BitVec.ofBool (decide ((320 : Int) ≤ j)) := by
      show BitVec.ofBool ((320#32).sle (wd j)) = _
      have : (320#32).sle (wd j) = decide ((320#32).toInt ≤ (wd j).toInt) := rfl
      rw [this, wd_toInt (by omega : j < 500), h320]
    rw [hb]
    unfold next
    by_cases hge : 320 ≤ j
    · rw [if_pos hge, decide_eq_true (by omega : (320 : Int) ≤ j)]
      show wd j - 320#32 = wd (j - 320)
      apply BitVec.eq_of_toNat_eq
      show (BitVec.ofNat 32 j - BitVec.ofNat 32 320).toNat = (BitVec.ofNat 32 (j - 320)).toNat
      simp only [BitVec.toNat_sub, BitVec.toNat_ofNat]
      omega
    · rw [if_neg hge, decide_eq_false (by omega : ¬ (320 : Int) ≤ j)]
      rfl

variable (f1 : S20480.Idx → BitVec 32) (hf1 : ∀ a : Fin 20480, f1 (ix1 a) = rows a)
  (f2 : S160x128.Idx → BitVec 32) (hf2 : ∀ (j : Fin 160) (l : Fin 128), f2 (ix2 j l) = rows (lane j l))
  (f3 : Buf (Elt Bits) (arg3.view.loc (c : Thread nD τ)))
  (hf3 : ∀ (cc : Fin 8192) (d : Fin 192), 8192 * (i 0).val + cc.val < 1700000 →
    arg3.view.read (Elt Bits) f3 (ix2 d cc) = tb (8192 * (i 0).val + cc.val) d)

/-- The scratch word's buffer. -/
abbrev scr (fs : S1.Idx → BitVec 32) : sProp 𝕄 :=
  iprop(((c : Thread nD τ).loc cc0_scratch0) ↦{fullShare} (fs : Buf (Elt Bits) ((c : Thread nD τ).loc cc0_scratch0)))

include hf1 hf2 hf3 in
/-- From the call on: the tile is in the scratch word. -/
theorem after_wp (E : Set ℕ) (fs : S1.Idx → BitVec 32) (j : Nat) (hj : j ≤ 160) (hfs : fs (ix1 (0 : Fin 1)) = wd j)
    (fo : S48x20480.Idx → BitVec 32) (hE : Entry rows tb (i 0).val j fo) (K : PUnit → sProp 𝕄) :
    iprop((held c q1 arg3 f1 f2 f3 fo ∗ scr c fs)
        ∗ ∀ r : (S1.Idx → BitVec 32) × (S48x20480.Idx → BitVec 32), ⌜Carry rows tb ((i 0).val + 1) r.1 r.2⌝
            -∗ ((held c q1 arg3 f1 f2 f3 r.2 ∗ scr c r.1) -∗ K ⟨⟩))
      ⊢ wp frame (wpE (defs₀ (F := Bits)) 𝒱₀ c none) E (do
          let v4 : Elt Bits .i32 ← smemLoad (Memref.whole cc0_scratch0 : Memref sig .tc .smem S1 .i32) (Rect.unit (s := S1) ![0] S1.size inb_S1_S1_0) numel1_S1 rfl
          let v5 : BitVec 32 ← Prog.lift (.call (1 : (Λ₀ Bits).Label) ⟨i, Memref.whole main_arg0, Memref.isWhole_whole _, Memref.whole cc0_stg0_0, Memref.isWhole_whole _,
            Memref.whole cc0_stg2_0, Memref.isWhole_whole _, arg3, harg3, v4⟩)
          let v9 : Elt Bits .i32 ← smemLoad (Memref.whole cc0_scratch0 : Memref sig .tc .smem S1 .i32) (Rect.unit (s := S1) ![0] S1.size inb_S1_S1_0) numel1_S1 rfl
          Prog.lift (.store (Memref.whole cc0_scratch0 : Memref sig .tc .smem S1 .i32) (Rect.unit (s := S1) ![0] S1.size inb_S1_S1_0)
            (fun _ => Scalar.select (Scalar.cmpi .sge v5 320#32) (Scalar.subi v5 320#32) v5) Finset.univ (View.stores_smem_one rfl numel1_S1) (.inl rfl))
          pure ⟨⟩) K := by
  simp only [smemLoad, smemLoadElt, Prog.lift, Prog.bind_op, Prog.bind_ret, Prog.pure_eq_ret]
  iintro ⟨⟨H, Hs⟩, Hk⟩
  iapply (wp_load 𝒱₀ (c : Thread nD τ) none E (m := Memref.whole cc0_scratch0) (Finset.subset_univ _)) $$ Hs; iintro Hs
  rw [scr_read, hfs]
  iapply (wp_call_spec 𝒱₀ (c : Thread nD τ) none E (spec c q1 i arg3 rows tb f1 f2 f3 fo) (160 - j)
    (fun u hu => nomatch hu) (spec_le c q1 i arg3 harg3 rows tb f1 hf1 f2 hf2 f3 hf3 E _ j rfl fo hE))
  rw [spec_apply]
  isplitl [H]; · iexact H
  iintro %r %hr H
  iapply (wp_load 𝒱₀ (c : Thread nD τ) none E (m := Memref.whole cc0_scratch0) (Finset.subset_univ _)) $$ Hs; iintro Hs
  iapply (wp_store 𝒱₀ (c : Thread nD τ) none E (m := Memref.whole cc0_scratch0)
    (r := Rect.unit (s := S1) ![0] S1.size inb_S1_S1_0) (Mk := Finset.univ) (Finset.subset_univ _)) $$ Hs; iintro Hs
  rw [scr_write, wp_ret]; imodintro
  obtain ⟨j', hj', he, hd⟩ := carry_of rows tb (i 0).val r.1 r.2 hr
  iapply Hk $$ %(((fun _ => Scalar.select (Scalar.cmpi .sge r.1 320#32) (Scalar.subi r.1 320#32) r.1), r.2) : (S1.Idx → BitVec 32) × (S48x20480.Idx → BitVec 32))
  · ipureintro; exact Or.inr ⟨j', hj', he, hd⟩
  · isplitl [H]; · iexact H
    iexact Hs

theorem zero_bit (n : Nat) (hn : n < 208) :
    Scalar.cmpi .ne (Scalar.extui (Scalar.cmpi .eq (BitVec.ofNat 32 n) 0#32) : BitVec 32) 0#32 = 1#1 ↔ n = 0 := by
  have h : (BitVec.ofNat 32 n = 0#32) ↔ n = 0 := by
    rw [← BitVec.toNat_inj]
    simp only [BitVec.toNat_ofNat]
    omega
  have e : ∀ b : BitVec 1, Scalar.cmpi .ne (Scalar.extui b : BitVec 32) 0#32 = 1#1 ↔ b = 1#1 := by decide
  rw [e]
  show BitVec.ofBool (BitVec.ofNat 32 n == 0#32) = 1#1 ↔ _
  rw [← h]
  by_cases hz : BitVec.ofNat 32 n = 0#32
  · simp [hz]
  · rw [show (BitVec.ofNat 32 n == 0#32) = false from beq_eq_false_iff_ne.2 hz]
    exact ⟨fun h => absurd h (by decide), fun h => absurd h hz⟩

include hf1 hf2 hf3 in
/-- The body at a chunk. -/
theorem kernel_wp (E : Set ℕ) (fs : S1.Idx → BitVec 32) (fo : S48x20480.Idx → BitVec 32) (hC : Carry rows tb (i 0).val fs fo) (K : PUnit → sProp 𝕄) :
    iprop((held c q1 arg3 f1 f2 f3 fo ∗ scr c fs)
        ∗ ∀ r : (S1.Idx → BitVec 32) × (S48x20480.Idx → BitVec 32), ⌜Carry rows tb ((i 0).val + 1) r.1 r.2⌝
            -∗ ((held c q1 arg3 f1 f2 f3 r.2 ∗ scr c r.1) -∗ K ⟨⟩))
      ⊢ wp frame (wpE (defs₀ (F := Bits)) 𝒱₀ c none) E
          (cc0_gather (F := Bits) i (Memref.whole main_arg0) (Memref.isWhole_whole _) (Memref.whole cc0_stg0_0) (Memref.isWhole_whole _)
            arg3 harg3 (Memref.whole cc0_stg2_0) (Memref.isWhole_whole _) (Memref.whole cc0_scratch0) (Memref.isWhole_whole _)) K := by
  have hi : (i 0).val < 208 := (i 0).isLt
  have hz := zero_bit (i 0).val hi
  rw [cc0_gather_eq_skeleton]
  unfold cc0_gather_skel
  by_cases h0 : (i 0).val = 0
  · rw [dif_pos (hz.2 h0)]
    simp only [smemLoad, smemLoadElt, Prog.lift, Prog.bind_op, Prog.bind_ret, Prog.pure_eq_ret]
    iintro ⟨⟨H, Hs⟩, Hk⟩
    iapply (wp_load 𝒱₀ (c : Thread nD τ) none E (m := Memref.whole cc0_scratch0) (Finset.subset_univ _)) $$ Hs; iintro Hs
    iapply (wp_store 𝒱₀ (c : Thread nD τ) none E (m := Memref.whole cc0_scratch0)
      (r := Rect.unit (s := S1) ![0] S1.size inb_S1_S1_0) (Mk := Finset.univ) (Finset.subset_univ _)) $$ Hs; iintro Hs
    have hw := after_wp c q1 i arg3 harg3 rows tb f1 hf1 f2 hf2 f3 hf3 E
      (((Memref.whole cc0_scratch0 : Memref sig .tc .smem S1 .i32).access (Rect.unit (s := S1) ![0] S1.size inb_S1_S1_0)).write (Elt Bits) fs (fun _ => 0#32) Finset.univ)
      0 (by omega) (congrFun (scr_write fs 0#32 inb_S1_S1_0) _) fo
      (entry_of rows tb (i 0).val 0 fo (by omega) (Or.inl h0) (fun _ => rfl)) K
    simp only [smemLoad, smemLoadElt, Prog.lift, Prog.bind_op, Prog.bind_ret, Prog.pure_eq_ret] at hw
    iapply hw
    isplitl [H Hs]
    · isplitl [H]; · iexact H
      iexact Hs
    iexact Hk
  · rw [dif_neg (fun h => h0 (hz.1 h))]
    obtain ⟨j, hj, hfs, hd⟩ := hC.resolve_left h0
    have hw := after_wp c q1 i arg3 harg3 rows tb f1 hf1 f2 hf2 f3 hf3 E fs j hj hfs fo
      (entry_of rows tb (i 0).val j fo hj (Or.inr hd) (fun h => absurd h h0)) K
    simp only [smemLoad, smemLoadElt, Prog.lift, Prog.bind_op, Prog.bind_ret, Prog.pure_eq_ret] at hw ⊢
    exact hw

end Run

end Cert.Gather.Body

end
-- ==== Proof.GatherData.lean ====
/-
  The gather's run, chunk by chunk: which blocks the pipeline brings in and takes out at each of the 208 chunks, what the
  memories hold between two chunks (the result built up so far and the tile the next chunk begins at), and that the body
  keeps it.
-/
module

public import proofs.«01_k».proof.Proof.GatherBody
public import proofs.«01_k».proof.Proof.Gen.Gather.Launch
public import Idealize.ShloMosaic.Lib.Pipeline.Frame
public import Idealize.ShloMosaic.Lib.Pipeline.ValueKit
public import Idealize.ShloMosaic.Lib.StableHlo.RunRead

@[expose] public section

noncomputable section

namespace Cert.Gather.Data

open Cert.Gather Cert.Gather.Gen Cert.Gather.Arith Cert.Gather.Step Cert.Gather.Tile Cert.Gather.Trip Cert.Gather.Reads Cert.Gather.Label Cert.Gather.Body
open Idealize.ShloMosaic hiding ix1 ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Bits) ℕ (UR sig nD τ) ℕ

variable (m : (ℓ : Loc nD τ sig) → Buf (Elt Bits) ℓ)

def V (c : Dev nD) (b : Ref sig .tc) : Buf (Elt Bits) ((c.tc : Thread nD τ).loc b) :=
  StableHlo.after (hostOps0 (F := Bits)) (fun b => m (c, b)) b

def adm : (pcfg0 (F := Bits)).Adm := ⟨fun k => V m 0 (pre0.ref k), trivial⟩

/-- The indices and the table's rows. -/
def rows (c : Dev nD) (a : Fin 20480) : BitVec 32 := m ((c : Thread nD τ).loc main_arg0) (ix1 a)
def tb (c : Dev nD) (r : Nat) (d : Fin 192) : BitVec 8 :=
  if h : r < 1700000 then m ((c : Thread nD τ).loc main_arg1) (ix2 (⟨r, h⟩ : Fin 1700000) d) else 0#8

def after (c : Dev nD) : (w : Fin (cfg0 (adm m)).W) → Fin (cfg0 (adm m)).N →
    (Y X : ((cfg0 (adm m)).win w).block.Idx → Elt Bits ((cfg0 (adm m)).win w).elt) → Prop
  | ⟨0, _⟩ => fun _ _ X => ∀ (j : Fin 160) (l : Fin 128), (X : S160x128.Idx → BitVec 32) (ix2 j l) = rows m c (lane j l)
  | ⟨1, _⟩ => fun _ _ _ => True
  | ⟨2, _⟩ => fun t _ X => Sorted (rows m c) → Done (rows m c) (tb m c) t.val (X : S48x20480.Idx → BitVec 32)
  | ⟨_ + 3, h⟩ => absurd h (Nat.not_lt.2 (Nat.le_add_left _ _))

def Φ (c : Dev nD) (t : Nat) : sProp 𝕄 :=
  iprop((∃ fs : S1.Idx → BitVec 32, ⌜t = 0 ∨ ∃ j, j ≤ 160 ∧ fs (ix1 (0 : Fin 1)) = wd j ∧ (Sorted (rows m c) → Used (rows m c) (t - 1) j)⌝ ∗ scr c fs)
    ∗ (((c : Thread nD τ).loc main_arg0) ↦{fullShare.right} (m ((c : Thread nD τ).loc main_arg0)))
    ∗ ∃ r, prngReg c r)

def rdat (c : Dev nD) : RDat τ (Elt Bits) Unit ℕ (UR sig nD τ) ℕ (cfg0 (adm m)) c where
  A w := V m c (Pipeline.arrRef spec0 w)
  after := after m c
  Φ t := Φ m c t.val
  q _ := fullShare
  owed _ := 0

theorem V_arg0 (c : Dev nD) : V m c main_arg0 = m ((c : Thread nD τ).loc main_arg0) :=
  StableHlo.after_of_writes_sub (W := [main_v0, main_v1]) _ _ (by simp [hostOps0]) (by decide)

theorem V_arg1 (c : Dev nD) : V m c main_arg1 = m ((c : Thread nD τ).loc main_arg1) :=
  StableHlo.after_of_writes_sub (W := [main_v0, main_v1]) _ _ (by simp [hostOps0]) (by decide)

theorem V_v0 (c : Dev nD) (j : Fin 160) (l : Fin 128) : (V m c main_v0 : S160x128.Idx → BitVec 32) (ix2 j l) = rows m c (lane j l) := by
  have e : (V m c main_v0 : S160x128.Idx → BitVec 32)
      = shapeCast S160x128 (m ((c : Thread nD τ).loc main_arg0) : S20480.Idx → BitVec 32) shapeCasts_S20480_S160x128 := by
    unfold V
    after_reads_simp
    rfl
  rw [e]
  refine shapeCast_apply _ _ _ (ix1 (lane j l)) ?_
  rw [Shape.rowMajor_val_one, Shape.rowMajor_val_two]
  show 128 * j.val + l.val = j.val * 128 + l.val
  omega

theorem V_v1 (c : Dev nD) (d : Fin 192) (r : Fin 1700000) : (V m c main_v1 : S192x1700000.Idx → BitVec 8) (ix2 d r) = tb m c r.val d := by
  have e : (V m c main_v1 : S192x1700000.Idx → BitVec 8)
      = transpose S192x1700000 [1, 0] (m ((c : Thread nD τ).loc main_arg1) : S1700000x192.Idx → BitVec 8) transposes_S1700000x192_S192x1700000_1_0 := by
    unfold V
    after_reads_simp
  rw [e, transpose_apply _ _ _ _ (ix2 r d) fun b => match b with | ⟨0, _⟩ => rfl | ⟨1, _⟩ => rfl]
  unfold tb
  rw [dif_pos r.isLt]

/-- The grid has one axis: a point's coordinate is its number. -/
theorem pt (t : Fin grid0.N) : (grid0.coords t 0).val = t.val := by
  have h := Pipeline.Grid.coords_val t 0 (S := 1) (B := 208) (by decide) (by decide)
  have := t.isLt; have hN := N_0
  rw [h]; omega

theorem pt_lt (t : Fin grid0.N) : t.val < 208 := by have := t.isLt; have hN := N_0; omega

theorem pt_word (t : Fin grid0.N) : (BitVec.ofNat 32 (grid0.coords t 0).val).toNat = t.val := by
  have h := pt_lt t
  rw [pt, BitVec.toNat_ofNat, Nat.mod_eq_of_lt (by omega)]

/-- A column of a block is moved if the table goes as far. -/
theorem extent_gt (t x : Nat) (h : x < 8192) (hx : 8192 * t + x < 1700000) : x < (Pipeline.Clip.of t 8192 1700000).extent 8192 := by
  unfold Pipeline.Clip.of
  split
  · exact h
  · show x < 1700000 - t * 8192
    omega

theorem fetch0 (a : (pcfg0 (F := Bits)).Adm) (t : Fin (cfg0 a).N) : ((cfg0 a).win 0).fetch t = true ↔ t.val % 208 = 0 :=
  Pipeline.Window.fetch_const ((cfg0 a).win 0) rfl (fun _ _ => rfl) N_0 t
theorem fetch1 (a : (pcfg0 (F := Bits)).Adm) (t : Fin (cfg0 a).N) : ((cfg0 a).win 1).fetch t = true :=
  (Pipeline.Window.fetch_reads ((cfg0 a).win 1) rfl (0 : Fin 1) (by decide : 1 < grid0.bound 0)
    (by decide : grid0.fixedAfter ![true] 0 = true)
    (Pipeline.Window.sep_of_coord (G := grid0) cc0_transform_1 (0 : Fin 1) (1 : Fin 2) (fun _ => rfl) (by decide)) (P := 1) (by decide : grid0.stride 0 = 1) t).2 (Nat.mod_one _)
theorem fetch2 (a : (pcfg0 (F := Bits)).Adm) (t : Fin (cfg0 a).N) : ((cfg0 a).win 2).fetch t = false :=
  Pipeline.Window.fetch_out ((cfg0 a).win 2) rfl t
theorem flush2 (a : (pcfg0 (F := Bits)).Adm) (t : Fin (cfg0 a).N) : ((cfg0 a).win 2).flush t = true ↔ t.val % 208 = 207 :=
  Pipeline.Window.flush_const ((cfg0 a).win 2) rfl (fun _ _ => rfl) N_0 rfl t

/-- What the body finds in the indices' buffer: the indices, in 160 rows of 128. -/
theorem found0 (c : Dev nD) (t : Fin (cfg0 (adm m)).N) (X) (h : (rdat m c).Finds 0 t X) (j : Fin 160) (l : Fin 128) :
    (X : S160x128.Idx → BitVec 32) (ix2 j l) = rows m c (lane j l) := by
  by_cases ht : t.val = 0
  · obtain ⟨d, rfl⟩ := ((rdat m c).finds_of_fetch ((fetch0 _ t).2 (by rw [ht])) X).1 h
    refine Eq.trans ?_ (V_v0 m c j l)
    unfold RDat.fetched Pipeline.Window.fill
    rw [dif_pos]
    · refine congrArg (V m c main_v0) (funext fun a => Fin.ext ?_)
      match a with
      | ⟨0, _⟩ =>
        show 0 * 160 + 1 * j.val = j.val
        omega
      | ⟨1, _⟩ =>
        show 0 * 128 + 1 * l.val = l.val
        omega
    · refine (Pipeline.Window.moved_iff _ _ _).2 fun a => ?_
      match a with
      | ⟨0, _⟩ => exact j.isLt
      | ⟨1, _⟩ => exact l.isLt
  · have hf : ((cfg0 (adm m)).win 0).fetch t = false := by
      have := fetch0 (adm m) t; have hl := pt_lt t
      rw [Nat.mod_eq_of_lt hl] at this
      exact Bool.eq_false_iff.2 (fun e => ht (this.1 e))
    rcases ((rdat m c).finds_of_pos hf ht X).1 h with h | ⟨Y, -, h⟩
    · exact absurd h (by rw [Pipeline.Window.flush_in _ rfl]; exact Bool.false_ne_true)
    · exact h j l

/-- What the body finds in the table's buffer: the block's columns, as far as the table goes. -/
theorem found1 (c : Dev nD) (t : Fin (cfg0 (adm m)).N) (X) (h : (rdat m c).Finds 1 t X) (cc : Fin 8192) (d : Fin 192)
    (hc : 8192 * t.val + cc.val < 1700000) : (X : S192x8192.Idx → BitVec 8) (ix2 d cc) = tb m c (8192 * t.val + cc.val) d := by
  obtain ⟨d', rfl⟩ := ((rdat m c).finds_of_fetch (fetch1 _ t) X).1 h
  refine Eq.trans ?_ (V_v1 m c d ⟨8192 * t.val + cc.val, hc⟩)
  unfold RDat.fetched Pipeline.Window.fill
  rw [dif_pos]
  · refine congrArg (V m c main_v1) (funext fun a => Fin.ext ?_)
    match a with
    | ⟨0, _⟩ =>
      show 0 * 192 + 1 * d.val = d.val
      omega
    | ⟨1, _⟩ =>
      show (BitVec.ofNat 32 (grid0.coords t 0).val).toNat * 8192 + 1 * cc.val = 8192 * t.val + cc.val
      rw [pt_word t]
      omega
  · refine (Pipeline.Window.moved_iff _ _ _).2 fun a => ?_
    match a with
    | ⟨0, _⟩ => exact d.isLt
    | ⟨1, _⟩ =>
      show cc.val < (Pipeline.Clip.of (BitVec.ofNat 32 (grid0.coords t 0).val).toNat 8192 1700000).extent 8192
      rw [pt_word t]
      exact extent_gt _ _ cc.isLt hc

/-- What the body finds in the result's buffer after the first point. -/
theorem found2 (c : Dev nD) (t : Fin (cfg0 (adm m)).N) (X) (h : (rdat m c).Finds 2 t X) (ht : t.val ≠ 0) (hs : Sorted (rows m c)) :
    Done (rows m c) (tb m c) (t.val - 1) (X : S48x20480.Idx → BitVec 32) := by
  rcases ((rdat m c).finds_of_pos (fetch2 _ t) ht X).1 h with h | ⟨Y, -, h⟩
  · have := (flush2 _ _).1 h; have hl := pt_lt t
    simp only at this; omega
  · exact h hs

/-- The body at a point, whichever of its two buffers holds the table's block. -/
theorem point_wp (c : Dev nD) (t : Fin grid0.N) (arg3 : Memref sig .tc (.core .vmem) S192x8192 .i8) (harg3 : arg3.IsWhole) (W : sProp 𝕄)
    (X0 : S160x128.Idx → BitVec 32) (h0 : ∀ j l, X0 (ix2 j l) = rows m c (lane j l))
    (X1 : S192x8192.Idx → BitVec 8) (h1 : ∀ (cc : Fin 8192) (d : Fin 192), 8192 * t.val + cc.val < 1700000 → X1 (ix2 d cc) = tb m c (8192 * t.val + cc.val) d)
    (X2 : S48x20480.Idx → BitVec 32) (h2 : t.val ≠ 0 → Sorted (rows m c) → Done (rows m c) (tb m c) (t.val - 1) X2) :
    iprop(Φ m c t.val ∗ W ∗ owns (c : Thread nD τ) (Memref.whole cc0_stg0_0) fullShare X0 ∗ owns (c : Thread nD τ) arg3 fullShare X1
        ∗ owns (c : Thread nD τ) (Memref.whole cc0_stg2_0) fullShare X2)
      ⊢@{sProp 𝕄} wp frame (wpE (defs₀ (F := Bits)) 𝒱₀ c none) Set.univ
        (cc0_gather (F := Bits) (grid0.coords t) (Memref.whole main_arg0) (Memref.isWhole_whole _) (Memref.whole cc0_stg0_0) (Memref.isWhole_whole _)
          arg3 harg3 (Memref.whole cc0_stg2_0) (Memref.isWhole_whole _) (Memref.whole cc0_scratch0) (Memref.isWhole_whole _))
        fun _ => iprop(Φ m c (t.val + 1) ∗ W
          ∗ (∃ Y0 : S160x128.Idx → BitVec 32, ⌜∀ j l, Y0 (ix2 j l) = rows m c (lane j l)⌝ ∗ owns (c : Thread nD τ) (Memref.whole cc0_stg0_0) fullShare Y0)
          ∗ (∃ Y1 : S192x8192.Idx → BitVec 8, ⌜True⌝ ∗ owns (c : Thread nD τ) arg3 fullShare Y1)
          ∗ (∃ Y2 : S48x20480.Idx → BitVec 32, ⌜Sorted (rows m c) → Done (rows m c) (tb m c) t.val Y2⌝ ∗ owns (c : Thread nD τ) (Memref.whole cc0_stg2_0) fullShare Y2)) := by
  simp only [owns_whole]
  have hp := pt t
  unfold Φ owns
  iintro ⟨⟨⟨%fs, %hfs, Hs⟩, Ht, Hr⟩, HW, H0, ⟨%f3, %hf3, H1⟩, H2⟩
  have hC : Carry (rows m c) (tb m c) (grid0.coords t 0).val fs X2 := by
    rw [hp]
    by_cases ht : t.val = 0
    · exact .inl ht
    · rcases hfs with h | ⟨j, hj, hw, hu⟩
      · exact .inl h
      · exact .inr ⟨j, hj, hw, fun hs => ⟨h2 ht hs, hu hs⟩⟩
  iapply (kernel_wp c fullShare.right (grid0.coords t) arg3 harg3 (rows m c) (tb m c) (m ((c : Thread nD τ).loc main_arg0)) (fun _ => rfl)
    X0 h0 f3 (fun cc d h => by rw [hp] at h ⊢; exact (congrFun hf3 _).trans (h1 cc d h)) Set.univ fs X2 hC _)
  isplitl [Hs Ht H0 H1 H2]
  · isplitr [Hs]
    · unfold held blk
      isplitl [Ht]; · iexact Ht
      isplitl [H0]; · iexact H0
      isplitl [H1]; · iexact H1
      iexact H2
    · iexact Hs
  · iintro %r %hr ⟨H, Hs⟩
    unfold held blk
    icases H with ⟨Ht, H0, H1, H2⟩
    rw [hp] at hr
    isplitl [Hs Ht Hr]
    · isplitl [Hs]
      · iexists r.1
        isplitr
        · ipureintro
          rcases hr with h | ⟨j, hj, hw, hu⟩
          · exact .inl h
          · exact .inr ⟨j, hj, hw, fun hs => (hu hs).2⟩
        · iexact Hs
      · isplitl [Ht]; · iexact Ht
        iexact Hr
    · isplitl [HW]; · iexact HW
      isplitl [H0]
      · iexists X0
        isplitr
        · ipureintro; exact h0
        · iexact H0
      · isplitl [H1]
        · iexists X1
          isplitr
          · ipureintro; trivial
          · iexists f3
            isplitr
            · ipureintro; exact hf3
            · iexact H1
        · iexists r.2
          isplitr
          · ipureintro
            rcases hr with h | ⟨j, hj, hw, hu⟩
            · exact absurd h (Nat.succ_ne_zero _)
            · exact fun hs => (hu hs).1
          · iexact H2

/-- The same at the buffers the point has. -/
theorem row_wp (c : Dev nD) (t : Fin grid0.N) (s0 : Fin 1) (s1 : Fin 2) (s2 : Fin 1) (W : sProp 𝕄)
    (X0 : S160x128.Idx → BitVec 32) (h0 : ∀ j l, X0 (ix2 j l) = rows m c (lane j l))
    (X1 : S192x8192.Idx → BitVec 8) (h1 : ∀ (cc : Fin 8192) (d : Fin 192), 8192 * t.val + cc.val < 1700000 → X1 (ix2 d cc) = tb m c (8192 * t.val + cc.val) d)
    (X2 : S48x20480.Idx → BitVec 32) (h2 : t.val ≠ 0 → Sorted (rows m c) → Done (rows m c) (tb m c) (t.val - 1) X2) :
    iprop(Φ m c t.val ∗ W ∗ owns (c : Thread nD τ) (spec0_0.stage s0) fullShare X0 ∗ owns (c : Thread nD τ) (spec0_1.stage s1) fullShare X1
        ∗ owns (c : Thread nD τ) (spec0_2.stage s2) fullShare X2)
      ⊢@{sProp 𝕄} wp frame (wpE (defs₀ (F := Bits)) 𝒱₀ c none) Set.univ
        (cc0_gather (F := Bits) (grid0.coords t) (Memref.whole main_arg0) (Memref.isWhole_whole _) (spec0_0.stage s0) (hstage0_0 s0) (spec0_1.stage s1) (hstage0_1 s1) (spec0_2.stage s2) (hstage0_2 s2) (Memref.whole cc0_scratch0) (Memref.isWhole_whole _))
        fun _ => iprop(Φ m c (t.val + 1) ∗ W
          ∗ (∃ Y0 : S160x128.Idx → BitVec 32, ⌜∀ j l, Y0 (ix2 j l) = rows m c (lane j l)⌝ ∗ owns (c : Thread nD τ) (spec0_0.stage s0) fullShare Y0)
          ∗ (∃ Y1 : S192x8192.Idx → BitVec 8, ⌜True⌝ ∗ owns (c : Thread nD τ) (spec0_1.stage s1) fullShare Y1)
          ∗ (∃ Y2 : S48x20480.Idx → BitVec 32, ⌜Sorted (rows m c) → Done (rows m c) (tb m c) t.val Y2⌝ ∗ owns (c : Thread nD τ) (spec0_2.stage s2) fullShare Y2)) := by
  match s0, s2 with
  | ⟨0, _⟩, ⟨0, _⟩ => exact point_wp m c t (spec0_1.stage s1) (hstage0_1 s1) W X0 h0 X1 h1 X2 h2

theorem row (t : Fin (cfg0 (adm m)).N) (s : (w : Fin 3) → Fin ((cfg0 (adm m)).win w).nbuf) :
    defs₀ (F := Bits) .tc (cfg0 (adm m)).body ((cfg0 (adm m)).bodyArgs t s)
      = cc0_gather (F := Bits) (grid0.coords t) (Memref.whole main_arg0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) := by
  unfold defs₀; rw [Defs.onTc_tc]

set_option backward.isDefEq.respectTransparency.types false in
/-- The body keeps the relation at every point. -/
theorem body (c : Dev nD) : (rdat m c).BodyObligation (defs₀ (F := Bits)) 𝒱₀ () Set.univ := by
  intro t Y hY
  rw [bigSep_W0, bigSep_W0, row]
  exact row_wp m c t _ _ _ _ (Y 0) (found0 m c t _ (hY 0)) (Y 1) (fun cc d h => found1 m c t _ (hY 1) cc d h) (Y 2) (fun ht hs => found2 m c t _ (hY 2) ht hs)

end Cert.Gather.Data

end
-- ==== Proof.GatherRun.lean ====
/-
  The gather's run as a whole: it ends with its arguments unchanged and its semaphores at zero, whatever the indices; and if
  the indices are sorted and name rows of the table, column `a` of the result holds the words of the row that index `a` names.
-/
module

public import proofs.«01_k».proof.Proof.GatherData
public import Idealize.ShloMosaic.Lib.Pipeline.ArrRel

@[expose] public section

noncomputable section

namespace Cert.Gather.Run

open Cert.Gather Cert.Gather.Gen Cert.Gather.Arith Cert.Gather.Step Cert.Gather.Tile Cert.Gather.Trip Cert.Gather.Reads Cert.Gather.Label Cert.Gather.Body Cert.Gather.Data
open Idealize.ShloMosaic hiding ix1 ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Bits) ℕ (UR sig nD τ) ℕ

variable (m : (ℓ : Loc nD τ sig) → Buf (Elt Bits) ℓ)

/-- Each word of the result, taken from the row its index names. -/
def Good (c : Dev nD) (G : S48x20480.Idx → BitVec 32) : Prop :=
  ∀ (a : Fin 20480) (kk : Fin 48), Word (tb m c (rows m c a).toNat) kk (G (ix2 kk a))

/-- What the run ends with. -/
def Ends (r : PUnit × MemSt nD τ sig (Elt Bits)) : Prop :=
  (∀ c : Dev nD, (Sorted (rows m c) → Good m c (r.2.mem ((c.tc : Thread nD τ).loc main_v2)))
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

theorem dev_one (c : Dev nD) : c = 0 := Subsingleton.elim (α := Fin 1) c 0

/-- The last point is the one at which the result is written back, and it is written back whole. -/
theorem whole2 : ((cfg0 (adm m)).win 2).WholeAt (⟨207, by rw [show (cfg0 (adm m)).N = 208 from N_0]; decide⟩ : Fin (cfg0 (adm m)).N) := by
  refine ⟨(flush2 _ _).2 (by rfl), fun t ht => Fin.ext ?_, fun a => ?_⟩
  · have := (flush2 _ _).1 ht; have hl := pt_lt t
    show t.val = 207
    omega
  · match a with
    | ⟨0, _⟩ => exact ⟨rfl, rfl⟩
    | ⟨1, _⟩ => exact ⟨rfl, rfl⟩

/-- The one table. -/
theorem table (c : Dev nD) : Pipeline.ΦT (pcfgs (F := Bits) 0).pre (adm m).1 c
    = (((c : Thread nD τ).loc main_arg0 ↦{fullShare.right} (m ((c : Thread nD τ).loc main_arg0))) : sProp 𝕄) := by
  unfold Pipeline.ΦT Pipeline.prefHeld
  refine (bigSep_singleton (i := (0 : Fin 1))).trans ?_
  rw [← V_arg0 m c, dev_one c]
  rfl

/-- The invariant at the start and at the end. -/
theorem start (c : Dev nD) : iprop(Pipeline.ΦA (cfg0 (adm m)).spec c ∗ Pipeline.ΦT (pcfgs (F := Bits) 0).pre (adm m).1 c) ⊢@{sProp 𝕄} (rdat m c).Φ 0 := by
  rw [table]
  show _ ⊢@{sProp 𝕄} Φ m c 0
  unfold Pipeline.ΦA Φ
  rw [show (Pipeline.scopedRest (cfg0 (adm m)).spec c : sProp 𝕄) = _ from scopedRest0_eq c]
  iintro ⟨⟨⟨%f, Hs⟩, Hr⟩, Ht⟩
  isplitl [Hs]
  · iexists f
    isplitr
    · ipureintro; exact .inl rfl
    · iexact Hs
  · isplitl [Ht]; · iexact Ht
    iexact Hr

theorem stop (c : Dev nD) : (rdat m c).Φ (Fin.last (cfg0 (adm m)).N) ⊢@{sProp 𝕄} Pipeline.ΦA (cfg0 (adm m)).spec c := by
  show Φ m c _ ⊢@{sProp 𝕄} _
  unfold Pipeline.ΦA Φ
  rw [show (Pipeline.scopedRest (cfg0 (adm m)).spec c : sProp 𝕄) = _ from scopedRest0_eq c]
  iintro ⟨⟨%f, -, Hs⟩, -, Hr⟩
  isplitl [Hs]
  · iexists f; iexact Hs
  · iexact Hr

set_option backward.isDefEq.respectTransparency.types false in
theorem run (g : Dev nD → PrngReg) :
    θ_run (defs (F := Bits)) (onTc (τ := τ) (main (F := Bits))) ⟨m, fun _ => 0, g⟩ (Ends m) := by
  refine Pipeline.RDat.θ_run_frameP_track (Q' := Ends m) pcfgs (fun _ => adm m) (0 : Fin 1) launch0 (defs₀ (F := Bits)) 𝒱₀ (rdat m) m g (main (F := Bits))
    (fun c => body m c) (fun c w => ?_) (fun _ _ => rfl) (V m)
    (Pipeline.hmainP_prefix pcfgs 0 (defs₀ (F := Bits)) 𝒱₀ m (main (F := Bits)) hostOps0 hostOps0_sub ⟨rfl, rfl⟩ main_chain)
    (fun _ _ => rfl) (fun c k => ?_) (start m) (stop m) ?_
  · unfold RDat.share
    split <;> rfl
  · rw [dev_one c]; rfl
  · intro r ⟨h, hsem⟩
    refine ⟨fun c => ⟨fun hs => ?_, ?_, ?_⟩, hsem⟩
    · obtain ⟨X, ⟨Y, -, hX⟩, hG⟩ := RDat.ArrAt.emb_eq_of_wholeAt ((h c).1 2) (whole2 m)
      intro a kk
      have e : (r.2.mem ((c.tc : Thread nD τ).loc main_v2) : S48x20480.Idx → BitVec 32) (ix2 kk a) = (X : S48x20480.Idx → BitVec 32) (ix2 kk a) :=
        hG (ix2 kk a)
      rw [e]
      exact all_done (rows m c) (tb m c) _ hs (hX hs) a kk
    · exact ((h c).2 main_arg0 (Pipeline.mem_restRefs_of main_arg0 (by decide) (by decide : ∀ w : Fin 3, (spec0 w).arr.view.ref ≠ main_arg0))).trans (V_arg0 m c)
    · exact ((h c).2 main_arg1 (Pipeline.mem_restRefs_of main_arg1 (by decide) (by decide : ∀ w : Fin 3, (spec0 w).arr.view.ref ≠ main_arg1))).trans (V_arg1 m c)

end Cert.Gather.Run

end
-- ==== Proof.GatherRef.lean ====
/-
  The gather's reference: its run, and the words it leaves, byte by byte; the precondition read as `Tile.Sorted`; and the
  equality of the gather's result with the reference's.
-/
module

public import proofs.«01_k».proof.Proof.GatherRun
public import proofs.«01_k».proof.Proof.Gen.GatherReference
public import proofs.«01_k».proof.Proof.Gen.Pre_rows_sorted
public import Idealize.ShloMosaic.Lib.StableHlo.Run
public import Idealize.ShloMosaic.Lib.StableHlo.RunRead
public import Idealize.ShloMosaic.Lib.BitcastConvert
public import Idealize.ShloMosaic.Lib.Routing.Ops
public import Idealize.ShloMosaic.Lib.Quiescent

@[expose] public section

noncomputable section

namespace Cert.GatherReference.Ref

open Cert.GatherReference Cert.GatherReference.Gen
open Idealize.ShloMosaic hiding ix1 ix2 ix3
open Idealize.ShloMosaic.TcCoe Idealize.ShloMosaic.StableHlo Idealize.ShloMosaic.ValueIdx Idealize.SL.Sem
open Cert.Gather.Step (Word)
open Cert.Gather.Tile (Sorted)

/-- @main's operations, in order. -/
abbrev ops : List (HloOp τ sig (Elt Bits)) :=
  [ nullary main_c (constantI S_ 32 0#32),
    unary main_c main_v0 (broadcastInDim S20480 ![] bcast_S_S20480),
    binary main_arg0 main_v0 main_v1 (cmpi .slt),
    nullary main_c_0 (constantI S_ 32 1700000#32),
    unary main_c_0 main_v2 (broadcastInDim S20480 ![] bcast_S_S20480),
    binary main_arg0 main_v2 main_v3 addi,
    ternary main_v1 main_v3 main_arg0 main_v4 select,
    unary main_v4 main_v5 (broadcastInDim S20480x1 ![0] bcast_S20480_S20480x1_0),
    binary main_arg1 main_v5 main_v6 (fun x i => Host.gather gather_S1700000x192_S20480x1_S20480x192_1_0_n_n_0_1_1192 x i),
    reshape main_v6 main_v7 rfl shapeCasts_S20480x192_S20480x48x4,
    unary main_v7 main_v8 (fun x => Host.bitcastConvertWiden S20480x48 32 x splits_S20480x48_w32_S20480x48x4_w8),
    unary main_v8 main_v9 (transpose S48x20480 [1, 0] · transposes_S20480x48_S48x20480_1_0) ]

theorem main_eq (c : Dev nD) : main (F := Bits) c = seq ops := by
  simp only [main, seq, bind_assoc, pure_bind]
  rfl

/-- The gathered table rows: a negative index counts from the table's end. -/
def taken (x : S20480.Idx → BitVec 32) (t : S1700000x192.Idx → BitVec 8) : S20480x192.Idx → BitVec 8 :=
  Host.gather gather_S1700000x192_S20480x1_S20480x192_1_0_n_n_0_1_1192 t
    (broadcastInDim S20480x1 ![0] bcast_S20480_S20480x1_0
      (select (cmpi .slt x (broadcastInDim S20480 ![] bcast_S_S20480 (constantI S_ 32 0#32)))
        (addi x (broadcastInDim S20480 ![] bcast_S_S20480 (constantI S_ 32 1700000#32))) x))

/-- The result: each gathered row's bytes in fours, one row a column. -/
def out (x : S20480.Idx → BitVec 32) (t : S1700000x192.Idx → BitVec 8) : S48x20480.Idx → BitVec 32 :=
  transpose S48x20480 [1, 0]
    (Host.bitcastConvertWiden S20480x48 32 (shapeCast S20480x48x4 (taken x t) shapeCasts_S20480x192_S20480x48x4)
      splits_S20480x48_w32_S20480x48x4_w8)
    transposes_S20480x48_S48x20480_1_0

theorem out_eq (V : Valuation τ sig (Elt Bits)) :
    after ops V (main_v9 : DevRef τ sig) = out (V (main_arg0 : DevRef τ sig)) (V (main_arg1 : DevRef τ sig)) := by
  after_results_simp
  rfl

theorem arg0_eq (V : Valuation τ sig (Elt Bits)) : after ops V (main_arg0 : DevRef τ sig) = V (main_arg0 : DevRef τ sig) := by
  simp only [after_cons, after_nil]
  rfl

theorem arg1_eq (V : Valuation τ sig (Elt Bits)) : after ops V (main_arg1 : DevRef τ sig) = V (main_arg1 : DevRef τ sig) := by
  simp only [after_cons, after_nil]
  rfl

theorem ops_sub : (ops : List (HloOp τ sig (Elt Bits))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., unary_bufs_sub ..⟩

/-- The reference's run. -/
theorem run (m : (ℓ : Loc nD τ sig) → Buf (Elt Bits) ℓ) (g : Dev nD → PrngReg) :
    θ_run (defs (F := Bits)) (onTc (τ := τ) (main (F := Bits))) ⟨m, fun _ => 0, g⟩ fun r =>
      (∀ c : Dev nD, r.2.mem ((c.tc : Thread nD τ).loc main_v9) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run _ _ _).mono (fun r h => ?_)
    (run_seq (by decide) (by decide) (defs (F := Bits)) (main (F := Bits)) (fun _ => ops) main_eq (fun _ => ops_sub) m g)
  refine ⟨fun c => ⟨(h c main_v9).trans ?_, (h c main_arg0).trans ?_, (h c main_arg1).trans ?_⟩, sem_eq_zero_of_no_sems rfl _⟩
  · exact out_eq _
  · exact arg0_eq _
  · exact arg1_eq _

/-- Where the indices name rows of the table, the gathered row is the index's. -/
theorem taken_apply (x : S20480.Idx → BitVec 32) (t : S1700000x192.Idx → BitVec 8) (a : Fin 20480) (d : Fin 192) (h : (x (ix1 a)).toNat < 1700000) :
    taken x t (ix2 a d) = t (ix2 (⟨(x (ix1 a)).toNat, h⟩ : Fin 1700000) d) := by
  unfold taken
  refine Routing.gather_row _ rfl rfl rfl rfl rfl _ _ a d _ ?_ (by decide)
  refine (broadcastInDim_apply _ _ _ _ (ix1 a) fun b => match b with | ⟨0, _⟩ => ?_).trans ?_
  · rfl
  show Scalar.select (IntOp.cmpi .slt (x (ix1 a)) 0#32) _ (x (ix1 a)) = _
  have hn : IntOp.cmpi .slt (x (ix1 a)) 0#32 = 0#1 := by
    show BitVec.ofBool ((x (ix1 a)).slt 0#32) = 0#1
    rw [show (x (ix1 a)).slt 0#32 = false from ?_]
    · rfl
    · rw [BitVec.slt_eq_decide, BitVec.toInt_eq_toNat_of_lt (by omega)]
      exact decide_eq_false (by simp)
  rw [hn]
  show x (ix1 a) = _
  exact BitVec.eq_of_toNat_eq ((BitVec.toNat_ofNat _ _).trans (Nat.mod_eq_of_lt (x (ix1 a)).isLt)).symm

/-- A word of the result is the four bytes of its row's. -/
theorem out_word (x : S20480.Idx → BitVec 32) (t : S1700000x192.Idx → BitVec 8) (a : Fin 20480) (kk : Fin 48) (h : (x (ix1 a)).toNat < 1700000) :
    Word (fun d => t (ix2 (⟨(x (ix1 a)).toNat, h⟩ : Fin 1700000) d)) kk (out x t (ix2 kk a)) := by
  intro q hq
  unfold out
  rw [transpose_apply _ _ _ _ (ix2 a kk) fun b => match b with | ⟨0, _⟩ => rfl | ⟨1, _⟩ => rfl,
    Host.bitcastConvertWiden_getLsbD _ _ _ _ _ q hq]
  refine congrArg (BitVec.getLsbD · (q % 8)) ?_
  refine (shapeCast_apply _ _ _ (ix2 a (⟨4 * kk.val + q / 8, by omega⟩ : Fin 192)) ?_).trans (taken_apply x t a _ h)
  have e : splits_S20480x48_w32_S20480x48x4_w8.snoc (ix2 a kk) ⟨q / 8, splits_S20480x48_w32_S20480x48x4_w8.div_lt hq⟩
      = ix3 a kk (⟨q / 8, by omega⟩ : Fin 4) :=
    funext fun b => match b with | ⟨0, _⟩ => rfl | ⟨1, _⟩ => rfl | ⟨2, _⟩ => rfl
  rw [e, Shape.rowMajor_val_two, Shape.rowMajor_val_three]
  show a.val * 192 + (4 * kk.val + q / 8) = (a.val * 48 + kk.val) * 4 + q / 8
  omega

/-- The precondition, read: every index names a row of the table, and the indices ascend. -/
theorem sorted_of (x : S20480.Idx → BitVec 32) (t : S1700000x192.Idx → BitVec 8)
    (h1 : (Cert.Pre_rows_sorted.fn (F := Bits) x t).1 = fun _ => 1#1) (h2 : (Cert.Pre_rows_sorted.fn (F := Bits) x t).2 = fun _ => 1#1) :
    Sorted fun a => x (ix1 a) := by
  have andi_one (a b : BitVec 1) : IntOp.andi a b = 1#1 ↔ a = 1#1 ∧ b = 1#1 := by revert a b; decide
  have ofBool_one (p : Bool) : BitVec.ofBool p = 1#1 ↔ p = true := by cases p <;> decide
  have hr : ∀ a : Fin 20480, 0 ≤ (x (ix1 a)).toInt ∧ (x (ix1 a)).toInt < 1700000 := fun a => by
    have h := congrFun h1 (ix1 a)
    have h : IntOp.andi (IntOp.cmpi .sge (x (ix1 a)) 0#32) (IntOp.cmpi .slt (x (ix1 a)) 1700000#32) = 1#1 := h
    rw [andi_one] at h
    have ha : BitVec.ofBool ((0#32).sle (x (ix1 a))) = 1#1 := h.1
    have hb : BitVec.ofBool ((x (ix1 a)).slt 1700000#32) = 1#1 := h.2
    rw [ofBool_one, BitVec.sle_eq_decide, decide_eq_true_eq] at ha
    rw [ofBool_one, BitVec.slt_eq_decide, decide_eq_true_eq] at hb
    exact ⟨ha, hb⟩
  have hn : ∀ a : Fin 20480, ((x (ix1 a)).toNat : Int) = (x (ix1 a)).toInt := fun a => by
    have := hr a
    rw [BitVec.toInt_eq_toNat_cond] at this ⊢
    split at this <;> rename_i hc
    · rw [if_pos hc]
    · have := (x (ix1 a)).isLt
      omega
  have hs : ∀ a : Nat, ∀ h : a + 1 < 20480, (x (ix1 (⟨a, by omega⟩ : Fin 20480))).toNat ≤ (x (ix1 (⟨a + 1, h⟩ : Fin 20480))).toNat := fun a ha => by
    have h := congrFun h2 (ix1 (⟨a, by omega⟩ : Fin 20479))
    have e1 : ∀ hb, extractStridedSlice Cert.Pre_rows_sorted.S20479 ![1] x hb (ix1 (⟨a, by omega⟩ : Fin 20479)) = x (ix1 (⟨a + 1, ha⟩ : Fin 20480)) := fun hb =>
      congrArg x (funext fun b => match b with | ⟨0, _⟩ => Fin.ext (Nat.add_comm 1 a))
    have e0 : ∀ hb, extractStridedSlice Cert.Pre_rows_sorted.S20479 ![0] x hb (ix1 (⟨a, by omega⟩ : Fin 20479)) = x (ix1 (⟨a, by omega⟩ : Fin 20480)) := fun hb =>
      congrArg x (funext fun b => match b with | ⟨0, _⟩ => Fin.ext (Nat.zero_add a))
    have h : IntOp.cmpi .sge (extractStridedSlice Cert.Pre_rows_sorted.S20479 ![1] x _ (ix1 (⟨a, by omega⟩ : Fin 20479)))
        (extractStridedSlice Cert.Pre_rows_sorted.S20479 ![0] x _ (ix1 (⟨a, by omega⟩ : Fin 20479))) = 1#1 := h
    rw [e1, e0] at h
    have h : BitVec.ofBool ((x (ix1 (⟨a, by omega⟩ : Fin 20480))).sle (x (ix1 (⟨a + 1, ha⟩ : Fin 20480)))) = 1#1 := h
    rw [ofBool_one, BitVec.sle_eq_decide, decide_eq_true_eq, ← hn, ← hn] at h
    exact Int.ofNat_le.1 h
  refine ⟨fun a => by have := hr a; have := hn a; show (x (ix1 a)).toNat < _; omega, fun a b hab => ?_⟩
  obtain ⟨d, hd⟩ := Nat.exists_eq_add_of_le (show a.val ≤ b.val from hab)
  induction d generalizing b with
  | zero => rw [show b = a from Fin.ext hd]
  | succ d ih =>
    have hb := b.isLt
    refine (ih ⟨a.val + d, by omega⟩ (Nat.le_add_right _ _) rfl).trans ?_
    have h := hs (a.val + d) (by omega)
    have e : b = ⟨a.val + d + 1, by omega⟩ := Fin.ext hd
    exact h.trans (Nat.le_of_eq (congrArg (fun b : Fin 20480 => (x (ix1 b)).toNat) e.symm))

/-- Under the precondition the gather's result is the reference's. -/
theorem good_eq (m : (ℓ : Loc Cert.Gather.nD Cert.Gather.τ Cert.Gather.sig) → Buf (Elt Bits) ℓ) (c : Dev Cert.Gather.nD)
    (hs : Sorted (Cert.Gather.Data.rows m c)) (G : S48x20480.Idx → BitVec 32) (h : Cert.Gather.Run.Good m c G) :
    G = out (m ((c.tc : Thread Cert.Gather.nD Cert.Gather.τ).loc Cert.Gather.main_arg0)) (m ((c.tc : Thread Cert.Gather.nD Cert.Gather.τ).loc Cert.Gather.main_arg1)) := by
  funext y
  obtain ⟨kk, a, rfl⟩ : ∃ (kk : Fin 48) (a : Fin 20480), y = ix2 kk a :=
    ⟨y 0, y 1, funext fun b => match b with | ⟨0, _⟩ => rfl | ⟨1, _⟩ => rfl⟩
  refine (h a kk).unique ?_
  have hw := out_word (m ((c.tc : Thread Cert.Gather.nD Cert.Gather.τ).loc Cert.Gather.main_arg0)) (m ((c.tc : Thread Cert.Gather.nD Cert.Gather.τ).loc Cert.Gather.main_arg1)) a kk (hs.1 a)
  rw [show Cert.Gather.Data.tb m c (Cert.Gather.Data.rows m c a).toNat = _ from funext fun d => dif_pos (hs.1 a)]
  exact hw

end Cert.GatherReference.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Gather
public import proofs.«01_k».proof.Proof.Gen.Gather.Skeleton
public import proofs.«01_k».proof.Proof.Gen.Gather.Launch
public import proofs.«01_k».proof.Proof.Gen.GatherReference
public import proofs.«01_k».proof.Proof.Gen.Pre_rows_sorted
public import Idealize.ShloMosaic.Adequacy
public import Idealize.ShloMosaic.Init
public import Idealize.ShloMosaic.Lib.Claim
public import proofs.«01_k».proof.Proof.Arrays
public import proofs.«01_k».proof.Proof.RefArrays
public import proofs.«01_k».proof.Proof.GatherRun
public import proofs.«01_k».proof.Proof.GatherRef

@[expose] public section

set_option maxRecDepth 16384

noncomputable section

namespace Cert.Proof

open Idealize.ShloMosaic Idealize.SL.Sem Cert.Kernel

/-- Kernel and reference leave the same codes, scales, biases and momenta. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, _, _, Cert.KernelIdeal.Arrays.run m g, ?_⟩
  refine (θ_run _ _ _).mono (fun r h c => ?_) (Cert.ReferenceIdeal.RefArrays.run m' g')
  obtain ⟨e0, e1, e2, e3, e4, e5, e6⟩ := hagree c
  obtain ⟨h0, h1, h2, h3, hargs⟩ := h c
  rw [e0, e1, e2, e3, e4, e5, e6] at h0 h1 h2
  rw [e0, e1, e2, e6] at h3
  exact ⟨h0, h1, h2, h3, hargs⟩

/-- The gather's frame: it ends with its arguments unchanged and every semaphore at zero. -/
theorem quiescent_gather (m : (ℓ : Loc Cert.Gather.nD Cert.Gather.τ Cert.Gather.sig) → Buf (Elt Bits) ℓ) (g : Dev Cert.Gather.nD → PrngReg) :
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0) :=
  (θ_run _ _ _).mono (fun _ h => ⟨fun c => (h.1 c).2, h.2⟩) (Cert.Gather.Run.run m g)

/-- The gather and its reference leave the same words. -/
theorem bitexact : Cert.bitexact_Gather_GatherReference_pre_rows_sorted
    (hGather := Cert.Gather.Gen.facts) (hGatherReference := Cert.GatherReference.Gen.facts) (hPre_rows_sorted := Cert.Pre_rows_sorted.Gen.facts) := by
  intro m g m' g' hpre hagree
  have hs : ∀ c, Cert.Gather.Tile.Sorted (Cert.Gather.Data.rows m c) := fun c =>
    Cert.GatherReference.Ref.sorted_of _ _ (hpre c).1 (hpre c).2
  refine ⟨fun c => Cert.GatherReference.Ref.out
      (m ((c.tc : Thread Cert.Gather.nD Cert.Gather.τ).loc Cert.Gather.main_arg0)) (m ((c.tc : Thread Cert.Gather.nD Cert.Gather.τ).loc Cert.Gather.main_arg1)), ?_, ?_⟩
  · refine (θ_run _ _ _).mono (fun r h c => ?_) (Cert.Gather.Run.run m g)
    exact ⟨Cert.GatherReference.Ref.good_eq m c (hs c) _ ((h.1 c).1 (hs c)), (h.1 c).2⟩
  · refine (θ_run _ _ _).mono (fun r h c => ?_) (Cert.GatherReference.Ref.run m' g')
    obtain ⟨e0, e1⟩ := hagree c
    obtain ⟨h0, hargs⟩ := h.1 c
    rw [e0, e1] at h0
    exact ⟨h0, hargs⟩

theorem claim : Cert.Claim := ⟨Cert.Kernel.Gen.facts, Cert.KernelIdeal.Gen.facts, Cert.ReferenceIdeal.Gen.facts,
  Cert.Gather.Gen.facts, Cert.GatherReference.Gen.facts, Cert.Pre_rows_sorted.Gen.facts,
  fun m ρ _ => Cert.Kernel.Gen.frame m ρ, fun m ρ _ => Cert.KernelIdeal.Gen.frame m ρ,
  fun m ρ _ => Cert.ReferenceIdeal.Gen.frame m ρ,
  fun m g _ => quiescent_gather m g, fun m g _ => quiescent_gather m g,
  fun m g _ => (θ_run _ _ _).mono (fun _ h => ⟨fun c => (h.1 c).2, h.2⟩) (Cert.GatherReference.Ref.run m g),
  trivial, algebraic, bitexact⟩

end Cert.Proof

end
